-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_v49) = v3 c
          ∧ r.2.mem ((c.tc : Thread Cert.ReferenceIdeal.nD Cert.ReferenceIdeal.τ).loc Cert.ReferenceIdeal.main_v50) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v43) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_v22) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v19) = v0 c
          ∧ r.2.mem ((c.tc : Thread Cert.Reference9Ideal.nD Cert.Reference9Ideal.τ).loc Cert.Reference9Ideal.main_v20) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)) (v4 : (c : Dev Cert.Kernel10Ideal.nD) → Buf (Elt Ideal) ((c.tc : Thread Cert.Kernel10Ideal.nD Cert.Kernel10Ideal.τ).loc Cert.Kernel10Ideal.main_v0_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_v0_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v27) = v0 c
          ∧ r.2.mem ((c.tc : Thread Cert.Reference10Ideal.nD Cert.Reference10Ideal.τ).loc Cert.Reference10Ideal.main_v28) = v1 c
          ∧ r.2.mem ((c.tc : Thread Cert.Reference10Ideal.nD Cert.Reference10Ideal.τ).loc Cert.Reference10Ideal.main_v29) = v2 c
          ∧ r.2.mem ((c.tc : Thread Cert.Reference10Ideal.nD Cert.Reference10Ideal.τ).loc Cert.Reference10Ideal.main_v26) = v3 c
          ∧ r.2.mem ((c.tc : Thread Cert.Reference10Ideal.nD Cert.Reference10Ideal.τ).loc Cert.Reference10Ideal.main_v42) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v11) = v0 c
          ∧ r.2.mem ((c.tc : Thread Cert.Reference12Ideal.nD Cert.Reference12Ideal.τ).loc Cert.Reference12Ideal.main_v13) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v22) = v0 c
          ∧ r.2.mem ((c.tc : Thread Cert.Reference11Ideal.nD Cert.Reference11Ideal.τ).loc Cert.Reference11Ideal.main_v21) = v1 c
          ∧ r.2.mem ((c.tc : Thread Cert.Reference11Ideal.nD Cert.Reference11Ideal.τ).loc Cert.Reference11Ideal.main_v23) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)) (v2 : (c : Dev Cert.Kernel15Ideal.nD) → Buf (Elt Ideal) ((c.tc : Thread Cert.Kernel15Ideal.nD Cert.Kernel15Ideal.τ).loc Cert.Kernel15Ideal.main_v4_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_v4_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v24) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v26) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m ((c.tc : Thread Cert.Kernel16Ideal.nD Cert.Kernel16Ideal.τ).loc Cert.Kernel16Ideal.main_arg0) = Layout.block ⟨3, ![8, 128, 1024]⟩ ⟨3, ![8, 1024, 1024]⟩ 1 8 c (m' (((0 : Dev Cert.Reference16Ideal.nD).tc : Thread Cert.Reference16Ideal.nD Cert.Reference16Ideal.τ).loc Cert.Reference16Ideal.main_arg0))
      ∧ m ((c.tc : Thread Cert.Kernel16Ideal.nD Cert.Kernel16Ideal.τ).loc Cert.Kernel16Ideal.main_arg1) = Layout.block ⟨2, ![128, 1024]⟩ ⟨2, ![1024, 1024]⟩ 0 8 c (m' (((0 : Dev Cert.Reference16Ideal.nD).tc : Thread Cert.Reference16Ideal.nD Cert.Reference16Ideal.τ).loc Cert.Reference16Ideal.main_arg1))
      ∧ m ((c.tc : Thread Cert.Kernel16Ideal.nD Cert.Kernel16Ideal.τ).loc Cert.Kernel16Ideal.main_arg2) = Layout.block ⟨2, ![128, 1024]⟩ ⟨2, ![1024, 1024]⟩ 0 8 c (m' (((0 : Dev Cert.Reference16Ideal.nD).tc : Thread Cert.Reference16Ideal.nD Cert.Reference16Ideal.τ).loc Cert.Reference16Ideal.main_arg2))
      ∧ m ((c.tc : Thread Cert.Kernel16Ideal.nD Cert.Kernel16Ideal.τ).loc Cert.Kernel16Ideal.main_arg3) = Layout.block ⟨2, ![128, 1024]⟩ ⟨2, ![1024, 1024]⟩ 0 8 c (m' (((0 : Dev Cert.Reference16Ideal.nD).tc : Thread Cert.Reference16Ideal.nD Cert.Reference16Ideal.τ).loc Cert.Reference16Ideal.main_arg3))
      ∧ m ((c.tc : Thread Cert.Kernel16Ideal.nD Cert.Kernel16Ideal.τ).loc Cert.Kernel16Ideal.main_arg4) = Layout.block ⟨2, ![128, 1024]⟩ ⟨2, ![1024, 1024]⟩ 0 8 c (m' (((0 : Dev Cert.Reference16Ideal.nD).tc : Thread Cert.Reference16Ideal.nD Cert.Reference16Ideal.τ).loc Cert.Reference16Ideal.main_arg4))) →
    ∃ (v0 : Buf (Elt Ideal) (((0 : Dev Cert.Reference16Ideal.nD).tc : Thread Cert.Reference16Ideal.nD Cert.Reference16Ideal.τ).loc Cert.Reference16Ideal.main_v13)) (v1 : Buf (Elt Ideal) (((0 : Dev Cert.Reference16Ideal.nD).tc : Thread Cert.Reference16Ideal.nD Cert.Reference16Ideal.τ).loc Cert.Reference16Ideal.main_v37)) (v2 : Buf (Elt Ideal) (((0 : Dev Cert.Reference16Ideal.nD).tc : Thread Cert.Reference16Ideal.nD Cert.Reference16Ideal.τ).loc Cert.Reference16Ideal.main_v18)) (v3 : Buf (Elt Ideal) (((0 : Dev Cert.Reference16Ideal.nD).tc : Thread Cert.Reference16Ideal.nD Cert.Reference16Ideal.τ).loc Cert.Reference16Ideal.main_v24)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = Layout.block ⟨2, ![128, 1024]⟩ ⟨2, ![1024, 1024]⟩ 0 8 c v0
          ∧ r.2.mem ((c.tc : Thread Cert.Kernel16Ideal.nD Cert.Kernel16Ideal.τ).loc Cert.Kernel16Ideal.main_v1_1) = Layout.block ⟨2, ![128, 1024]⟩ ⟨2, ![1024, 1024]⟩ 0 8 c v1
          ∧ r.2.mem ((c.tc : Thread Cert.Kernel16Ideal.nD Cert.Kernel16Ideal.τ).loc Cert.Kernel16Ideal.main_v1_2) = Layout.block ⟨2, ![128, 1024]⟩ ⟨2, ![1024, 1024]⟩ 0 8 c v2
          ∧ r.2.mem ((c.tc : Thread Cert.Kernel16Ideal.nD Cert.Kernel16Ideal.τ).loc Cert.Kernel16Ideal.main_v1_3) = Layout.block ⟨2, ![128, 1024]⟩ ⟨2, ![1024, 1024]⟩ 0 8 c v3
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r =>
          r.2.mem (((0 : Dev Cert.Reference16Ideal.nD).tc : Thread Cert.Reference16Ideal.nD Cert.Reference16Ideal.τ).loc Cert.Reference16Ideal.main_v13) = v0
          ∧ r.2.mem (((0 : Dev Cert.Reference16Ideal.nD).tc : Thread Cert.Reference16Ideal.nD Cert.Reference16Ideal.τ).loc Cert.Reference16Ideal.main_v37) = v1
          ∧ r.2.mem (((0 : Dev Cert.Reference16Ideal.nD).tc : Thread Cert.Reference16Ideal.nD Cert.Reference16Ideal.τ).loc Cert.Reference16Ideal.main_v18) = v2
          ∧ r.2.mem (((0 : Dev Cert.Reference16Ideal.nD).tc : Thread Cert.Reference16Ideal.nD Cert.Reference16Ideal.τ).loc Cert.Reference16Ideal.main_v24) = v3
          ∧ r.2.mem (((0 : Dev Cert.Reference16Ideal.nD).tc : Thread Cert.Reference16Ideal.nD Cert.Reference16Ideal.τ).loc Cert.Reference16Ideal.main_arg0) = m' (((0 : Dev Cert.Reference16Ideal.nD).tc : Thread Cert.Reference16Ideal.nD Cert.Reference16Ideal.τ).loc Cert.Reference16Ideal.main_arg0)
          ∧ r.2.mem (((0 : Dev Cert.Reference16Ideal.nD).tc : Thread Cert.Reference16Ideal.nD Cert.Reference16Ideal.τ).loc Cert.Reference16Ideal.main_arg1) = m' (((0 : Dev Cert.Reference16Ideal.nD).tc : Thread Cert.Reference16Ideal.nD Cert.Reference16Ideal.τ).loc Cert.Reference16Ideal.main_arg1)
          ∧ r.2.mem (((0 : Dev Cert.Reference16Ideal.nD).tc : Thread Cert.Reference16Ideal.nD Cert.Reference16Ideal.τ).loc Cert.Reference16Ideal.main_arg2) = m' (((0 : Dev Cert.Reference16Ideal.nD).tc : Thread Cert.Reference16Ideal.nD Cert.Reference16Ideal.τ).loc Cert.Reference16Ideal.main_arg2)
          ∧ r.2.mem (((0 : Dev Cert.Reference16Ideal.nD).tc : Thread Cert.Reference16Ideal.nD Cert.Reference16Ideal.τ).loc Cert.Reference16Ideal.main_arg3) = m' (((0 : Dev Cert.Reference16Ideal.nD).tc : Thread Cert.Reference16Ideal.nD Cert.Reference16Ideal.τ).loc Cert.Reference16Ideal.main_arg3)
          ∧ r.2.mem (((0 : Dev Cert.Reference16Ideal.nD).tc : Thread Cert.Reference16Ideal.nD Cert.Reference16Ideal.τ).loc Cert.Reference16Ideal.main_arg4) = m' (((0 : Dev Cert.Reference16Ideal.nD).tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m ((c.tc : Thread Cert.Kernel17Ideal.nD Cert.Kernel17Ideal.τ).loc Cert.Kernel17Ideal.main_arg0) = Layout.block ⟨3, ![8, 352, 1024]⟩ ⟨3, ![8, 2816, 1024]⟩ 1 8 c (m' (((0 : Dev Cert.Reference17Ideal.nD).tc : Thread Cert.Reference17Ideal.nD Cert.Reference17Ideal.τ).loc Cert.Reference17Ideal.main_arg0))
      ∧ m ((c.tc : Thread Cert.Kernel17Ideal.nD Cert.Kernel17Ideal.τ).loc Cert.Kernel17Ideal.main_arg1) = Layout.block ⟨2, ![352, 1024]⟩ ⟨2, ![2816, 1024]⟩ 0 8 c (m' (((0 : Dev Cert.Reference17Ideal.nD).tc : Thread Cert.Reference17Ideal.nD Cert.Reference17Ideal.τ).loc Cert.Reference17Ideal.main_arg1))
      ∧ m ((c.tc : Thread Cert.Kernel17Ideal.nD Cert.Kernel17Ideal.τ).loc Cert.Kernel17Ideal.main_arg2) = Layout.block ⟨2, ![352, 1024]⟩ ⟨2, ![2816, 1024]⟩ 0 8 c (m' (((0 : Dev Cert.Reference17Ideal.nD).tc : Thread Cert.Reference17Ideal.nD Cert.Reference17Ideal.τ).loc Cert.Reference17Ideal.main_arg2))
      ∧ m ((c.tc : Thread Cert.Kernel17Ideal.nD Cert.Kernel17Ideal.τ).loc Cert.Kernel17Ideal.main_arg3) = Layout.block ⟨2, ![352, 1024]⟩ ⟨2, ![2816, 1024]⟩ 0 8 c (m' (((0 : Dev Cert.Reference17Ideal.nD).tc : Thread Cert.Reference17Ideal.nD Cert.Reference17Ideal.τ).loc Cert.Reference17Ideal.main_arg3))
      ∧ m ((c.tc : Thread Cert.Kernel17Ideal.nD Cert.Kernel17Ideal.τ).loc Cert.Kernel17Ideal.main_arg4) = Layout.block ⟨2, ![352, 1024]⟩ ⟨2, ![2816, 1024]⟩ 0 8 c (m' (((0 : Dev Cert.Reference17Ideal.nD).tc : Thread Cert.Reference17Ideal.nD Cert.Reference17Ideal.τ).loc Cert.Reference17Ideal.main_arg4))) →
    ∃ (v0 : Buf (Elt Ideal) (((0 : Dev Cert.Reference17Ideal.nD).tc : Thread Cert.Reference17Ideal.nD Cert.Reference17Ideal.τ).loc Cert.Reference17Ideal.main_v13)) (v1 : Buf (Elt Ideal) (((0 : Dev Cert.Reference17Ideal.nD).tc : Thread Cert.Reference17Ideal.nD Cert.Reference17Ideal.τ).loc Cert.Reference17Ideal.main_v37)) (v2 : Buf (Elt Ideal) (((0 : Dev Cert.Reference17Ideal.nD).tc : Thread Cert.Reference17Ideal.nD Cert.Reference17Ideal.τ).loc Cert.Reference17Ideal.main_v18)) (v3 : Buf (Elt Ideal) (((0 : Dev Cert.Reference17Ideal.nD).tc : Thread Cert.Reference17Ideal.nD Cert.Reference17Ideal.τ).loc Cert.Reference17Ideal.main_v24)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = Layout.block ⟨2, ![352, 1024]⟩ ⟨2, ![2816, 1024]⟩ 0 8 c v0
          ∧ r.2.mem ((c.tc : Thread Cert.Kernel17Ideal.nD Cert.Kernel17Ideal.τ).loc Cert.Kernel17Ideal.main_v1_1) = Layout.block ⟨2, ![352, 1024]⟩ ⟨2, ![2816, 1024]⟩ 0 8 c v1
          ∧ r.2.mem ((c.tc : Thread Cert.Kernel17Ideal.nD Cert.Kernel17Ideal.τ).loc Cert.Kernel17Ideal.main_v1_2) = Layout.block ⟨2, ![352, 1024]⟩ ⟨2, ![2816, 1024]⟩ 0 8 c v2
          ∧ r.2.mem ((c.tc : Thread Cert.Kernel17Ideal.nD Cert.Kernel17Ideal.τ).loc Cert.Kernel17Ideal.main_v1_3) = Layout.block ⟨2, ![352, 1024]⟩ ⟨2, ![2816, 1024]⟩ 0 8 c v3
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r =>
          r.2.mem (((0 : Dev Cert.Reference17Ideal.nD).tc : Thread Cert.Reference17Ideal.nD Cert.Reference17Ideal.τ).loc Cert.Reference17Ideal.main_v13) = v0
          ∧ r.2.mem (((0 : Dev Cert.Reference17Ideal.nD).tc : Thread Cert.Reference17Ideal.nD Cert.Reference17Ideal.τ).loc Cert.Reference17Ideal.main_v37) = v1
          ∧ r.2.mem (((0 : Dev Cert.Reference17Ideal.nD).tc : Thread Cert.Reference17Ideal.nD Cert.Reference17Ideal.τ).loc Cert.Reference17Ideal.main_v18) = v2
          ∧ r.2.mem (((0 : Dev Cert.Reference17Ideal.nD).tc : Thread Cert.Reference17Ideal.nD Cert.Reference17Ideal.τ).loc Cert.Reference17Ideal.main_v24) = v3
          ∧ r.2.mem (((0 : Dev Cert.Reference17Ideal.nD).tc : Thread Cert.Reference17Ideal.nD Cert.Reference17Ideal.τ).loc Cert.Reference17Ideal.main_arg0) = m' (((0 : Dev Cert.Reference17Ideal.nD).tc : Thread Cert.Reference17Ideal.nD Cert.Reference17Ideal.τ).loc Cert.Reference17Ideal.main_arg0)
          ∧ r.2.mem (((0 : Dev Cert.Reference17Ideal.nD).tc : Thread Cert.Reference17Ideal.nD Cert.Reference17Ideal.τ).loc Cert.Reference17Ideal.main_arg1) = m' (((0 : Dev Cert.Reference17Ideal.nD).tc : Thread Cert.Reference17Ideal.nD Cert.Reference17Ideal.τ).loc Cert.Reference17Ideal.main_arg1)
          ∧ r.2.mem (((0 : Dev Cert.Reference17Ideal.nD).tc : Thread Cert.Reference17Ideal.nD Cert.Reference17Ideal.τ).loc Cert.Reference17Ideal.main_arg2) = m' (((0 : Dev Cert.Reference17Ideal.nD).tc : Thread Cert.Reference17Ideal.nD Cert.Reference17Ideal.τ).loc Cert.Reference17Ideal.main_arg2)
          ∧ r.2.mem (((0 : Dev Cert.Reference17Ideal.nD).tc : Thread Cert.Reference17Ideal.nD Cert.Reference17Ideal.τ).loc Cert.Reference17Ideal.main_arg3) = m' (((0 : Dev Cert.Reference17Ideal.nD).tc : Thread Cert.Reference17Ideal.nD Cert.Reference17Ideal.τ).loc Cert.Reference17Ideal.main_arg3)
          ∧ r.2.mem (((0 : Dev Cert.Reference17Ideal.nD).tc : Thread Cert.Reference17Ideal.nD Cert.Reference17Ideal.τ).loc Cert.Reference17Ideal.main_arg4) = m' (((0 : Dev Cert.Reference17Ideal.nD).tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m ((c.tc : Thread Cert.Kernel18Ideal.nD Cert.Kernel18Ideal.τ).loc Cert.Kernel18Ideal.main_arg0) = Layout.block ⟨3, ![8, 672, 1024]⟩ ⟨3, ![8, 5376, 1024]⟩ 1 8 c (m' (((0 : Dev Cert.Reference18Ideal.nD).tc : Thread Cert.Reference18Ideal.nD Cert.Reference18Ideal.τ).loc Cert.Reference18Ideal.main_arg0))
      ∧ m ((c.tc : Thread Cert.Kernel18Ideal.nD Cert.Kernel18Ideal.τ).loc Cert.Kernel18Ideal.main_arg1) = Layout.block ⟨2, ![672, 1024]⟩ ⟨2, ![5376, 1024]⟩ 0 8 c (m' (((0 : Dev Cert.Reference18Ideal.nD).tc : Thread Cert.Reference18Ideal.nD Cert.Reference18Ideal.τ).loc Cert.Reference18Ideal.main_arg1))
      ∧ m ((c.tc : Thread Cert.Kernel18Ideal.nD Cert.Kernel18Ideal.τ).loc Cert.Kernel18Ideal.main_arg2) = Layout.block ⟨2, ![1024, 672]⟩ ⟨2, ![1024, 5376]⟩ 1 8 c (m' (((0 : Dev Cert.Reference18Ideal.nD).tc : Thread Cert.Reference18Ideal.nD Cert.Reference18Ideal.τ).loc Cert.Reference18Ideal.main_arg2))
      ∧ m ((c.tc : Thread Cert.Kernel18Ideal.nD Cert.Kernel18Ideal.τ).loc Cert.Kernel18Ideal.main_arg3) = Layout.block ⟨2, ![1024, 672]⟩ ⟨2, ![1024, 5376]⟩ 1 8 c (m' (((0 : Dev Cert.Reference18Ideal.nD).tc : Thread Cert.Reference18Ideal.nD Cert.Reference18Ideal.τ).loc Cert.Reference18Ideal.main_arg3))
      ∧ m ((c.tc : Thread Cert.Kernel18Ideal.nD Cert.Kernel18Ideal.τ).loc Cert.Kernel18Ideal.main_arg4) = Layout.block ⟨2, ![1024, 672]⟩ ⟨2, ![1024, 5376]⟩ 1 8 c (m' (((0 : Dev Cert.Reference18Ideal.nD).tc : Thread Cert.Reference18Ideal.nD Cert.Reference18Ideal.τ).loc Cert.Reference18Ideal.main_arg4))) →
    ∃ (v0 : Buf (Elt Ideal) (((0 : Dev Cert.Reference18Ideal.nD).tc : Thread Cert.Reference18Ideal.nD Cert.Reference18Ideal.τ).loc Cert.Reference18Ideal.main_v13)) (v1 : Buf (Elt Ideal) (((0 : Dev Cert.Reference18Ideal.nD).tc : Thread Cert.Reference18Ideal.nD Cert.Reference18Ideal.τ).loc Cert.Reference18Ideal.main_v40)) (v2 : Buf (Elt Ideal) (((0 : Dev Cert.Reference18Ideal.nD).tc : Thread Cert.Reference18Ideal.nD Cert.Reference18Ideal.τ).loc Cert.Reference18Ideal.main_v21)) (v3 : Buf (Elt Ideal) (((0 : Dev Cert.Reference18Ideal.nD).tc : Thread Cert.Reference18Ideal.nD Cert.Reference18Ideal.τ).loc Cert.Reference18Ideal.main_v27)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = Layout.block ⟨2, ![672, 1024]⟩ ⟨2, ![5376, 1024]⟩ 0 8 c v0
          ∧ r.2.mem ((c.tc : Thread Cert.Kernel18Ideal.nD Cert.Kernel18Ideal.τ).loc Cert.Kernel18Ideal.main_v4_1) = Layout.block ⟨2, ![672, 1024]⟩ ⟨2, ![5376, 1024]⟩ 0 8 c v1
          ∧ r.2.mem ((c.tc : Thread Cert.Kernel18Ideal.nD Cert.Kernel18Ideal.τ).loc Cert.Kernel18Ideal.main_v4_2) = Layout.block ⟨2, ![672, 1024]⟩ ⟨2, ![5376, 1024]⟩ 0 8 c v2
          ∧ r.2.mem ((c.tc : Thread Cert.Kernel18Ideal.nD Cert.Kernel18Ideal.τ).loc Cert.Kernel18Ideal.main_v4_3) = Layout.block ⟨2, ![672, 1024]⟩ ⟨2, ![5376, 1024]⟩ 0 8 c v3
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r =>
          r.2.mem (((0 : Dev Cert.Reference18Ideal.nD).tc : Thread Cert.Reference18Ideal.nD Cert.Reference18Ideal.τ).loc Cert.Reference18Ideal.main_v13) = v0
          ∧ r.2.mem (((0 : Dev Cert.Reference18Ideal.nD).tc : Thread Cert.Reference18Ideal.nD Cert.Reference18Ideal.τ).loc Cert.Reference18Ideal.main_v40) = v1
          ∧ r.2.mem (((0 : Dev Cert.Reference18Ideal.nD).tc : Thread Cert.Reference18Ideal.nD Cert.Reference18Ideal.τ).loc Cert.Reference18Ideal.main_v21) = v2
          ∧ r.2.mem (((0 : Dev Cert.Reference18Ideal.nD).tc : Thread Cert.Reference18Ideal.nD Cert.Reference18Ideal.τ).loc Cert.Reference18Ideal.main_v27) = v3
          ∧ r.2.mem (((0 : Dev Cert.Reference18Ideal.nD).tc : Thread Cert.Reference18Ideal.nD Cert.Reference18Ideal.τ).loc Cert.Reference18Ideal.main_arg0) = m' (((0 : Dev Cert.Reference18Ideal.nD).tc : Thread Cert.Reference18Ideal.nD Cert.Reference18Ideal.τ).loc Cert.Reference18Ideal.main_arg0)
          ∧ r.2.mem (((0 : Dev Cert.Reference18Ideal.nD).tc : Thread Cert.Reference18Ideal.nD Cert.Reference18Ideal.τ).loc Cert.Reference18Ideal.main_arg1) = m' (((0 : Dev Cert.Reference18Ideal.nD).tc : Thread Cert.Reference18Ideal.nD Cert.Reference18Ideal.τ).loc Cert.Reference18Ideal.main_arg1)
          ∧ r.2.mem (((0 : Dev Cert.Reference18Ideal.nD).tc : Thread Cert.Reference18Ideal.nD Cert.Reference18Ideal.τ).loc Cert.Reference18Ideal.main_arg2) = m' (((0 : Dev Cert.Reference18Ideal.nD).tc : Thread Cert.Reference18Ideal.nD Cert.Reference18Ideal.τ).loc Cert.Reference18Ideal.main_arg2)
          ∧ r.2.mem (((0 : Dev Cert.Reference18Ideal.nD).tc : Thread Cert.Reference18Ideal.nD Cert.Reference18Ideal.τ).loc Cert.Reference18Ideal.main_arg3) = m' (((0 : Dev Cert.Reference18Ideal.nD).tc : Thread Cert.Reference18Ideal.nD Cert.Reference18Ideal.τ).loc Cert.Reference18Ideal.main_arg3)
          ∧ r.2.mem (((0 : Dev Cert.Reference18Ideal.nD).tc : Thread Cert.Reference18Ideal.nD Cert.Reference18Ideal.τ).loc Cert.Reference18Ideal.main_arg4) = m' (((0 : Dev Cert.Reference18Ideal.nD).tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m ((c.tc : Thread Cert.Kernel19Ideal.nD Cert.Kernel19Ideal.τ).loc Cert.Kernel19Ideal.main_arg0) = Layout.block ⟨3, ![8, 704, 1024]⟩ ⟨3, ![8, 5632, 1024]⟩ 1 8 c (m' (((0 : Dev Cert.Reference19Ideal.nD).tc : Thread Cert.Reference19Ideal.nD Cert.Reference19Ideal.τ).loc Cert.Reference19Ideal.main_arg0))
      ∧ m ((c.tc : Thread Cert.Kernel19Ideal.nD Cert.Kernel19Ideal.τ).loc Cert.Kernel19Ideal.main_arg1) = Layout.block ⟨2, ![704, 1024]⟩ ⟨2, ![5632, 1024]⟩ 0 8 c (m' (((0 : Dev Cert.Reference19Ideal.nD).tc : Thread Cert.Reference19Ideal.nD Cert.Reference19Ideal.τ).loc Cert.Reference19Ideal.main_arg1))
      ∧ m ((c.tc : Thread Cert.Kernel19Ideal.nD Cert.Kernel19Ideal.τ).loc Cert.Kernel19Ideal.main_arg2) = Layout.block ⟨2, ![1024, 704]⟩ ⟨2, ![1024, 5632]⟩ 1 8 c (m' (((0 : Dev Cert.Reference19Ideal.nD).tc : Thread Cert.Reference19Ideal.nD Cert.Reference19Ideal.τ).loc Cert.Reference19Ideal.main_arg2))
      ∧ m ((c.tc : Thread Cert.Kernel19Ideal.nD Cert.Kernel19Ideal.τ).loc Cert.Kernel19Ideal.main_arg3) = Layout.block ⟨2, ![1024, 704]⟩ ⟨2, ![1024, 5632]⟩ 1 8 c (m' (((0 : Dev Cert.Reference19Ideal.nD).tc : Thread Cert.Reference19Ideal.nD Cert.Reference19Ideal.τ).loc Cert.Reference19Ideal.main_arg3))
      ∧ m ((c.tc : Thread Cert.Kernel19Ideal.nD Cert.Kernel19Ideal.τ).loc Cert.Kernel19Ideal.main_arg4) = Layout.block ⟨2, ![1024, 704]⟩ ⟨2, ![1024, 5632]⟩ 1 8 c (m' (((0 : Dev Cert.Reference19Ideal.nD).tc : Thread Cert.Reference19Ideal.nD Cert.Reference19Ideal.τ).loc Cert.Reference19Ideal.main_arg4))) →
    ∃ (v0 : Buf (Elt Ideal) (((0 : Dev Cert.Reference19Ideal.nD).tc : Thread Cert.Reference19Ideal.nD Cert.Reference19Ideal.τ).loc Cert.Reference19Ideal.main_v13)) (v1 : Buf (Elt Ideal) (((0 : Dev Cert.Reference19Ideal.nD).tc : Thread Cert.Reference19Ideal.nD Cert.Reference19Ideal.τ).loc Cert.Reference19Ideal.main_v40)) (v2 : Buf (Elt Ideal) (((0 : Dev Cert.Reference19Ideal.nD).tc : Thread Cert.Reference19Ideal.nD Cert.Reference19Ideal.τ).loc Cert.Reference19Ideal.main_v21)) (v3 : Buf (Elt Ideal) (((0 : Dev Cert.Reference19Ideal.nD).tc : Thread Cert.Reference19Ideal.nD Cert.Reference19Ideal.τ).loc Cert.Reference19Ideal.main_v27)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4_0) = Layout.block ⟨2, ![704, 1024]⟩ ⟨2, ![5632, 1024]⟩ 0 8 c v0
          ∧ r.2.mem ((c.tc : Thread Cert.Kernel19Ideal.nD Cert.Kernel19Ideal.τ).loc Cert.Kernel19Ideal.main_v4_1) = Layout.block ⟨2, ![704, 1024]⟩ ⟨2, ![5632, 1024]⟩ 0 8 c v1
          ∧ r.2.mem ((c.tc : Thread Cert.Kernel19Ideal.nD Cert.Kernel19Ideal.τ).loc Cert.Kernel19Ideal.main_v4_2) = Layout.block ⟨2, ![704, 1024]⟩ ⟨2, ![5632, 1024]⟩ 0 8 c v2
          ∧ r.2.mem ((c.tc : Thread Cert.Kernel19Ideal.nD Cert.Kernel19Ideal.τ).loc Cert.Kernel19Ideal.main_v4_3) = Layout.block ⟨2, ![704, 1024]⟩ ⟨2, ![5632, 1024]⟩ 0 8 c v3
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r =>
          r.2.mem (((0 : Dev Cert.Reference19Ideal.nD).tc : Thread Cert.Reference19Ideal.nD Cert.Reference19Ideal.τ).loc Cert.Reference19Ideal.main_v13) = v0
          ∧ r.2.mem (((0 : Dev Cert.Reference19Ideal.nD).tc : Thread Cert.Reference19Ideal.nD Cert.Reference19Ideal.τ).loc Cert.Reference19Ideal.main_v40) = v1
          ∧ r.2.mem (((0 : Dev Cert.Reference19Ideal.nD).tc : Thread Cert.Reference19Ideal.nD Cert.Reference19Ideal.τ).loc Cert.Reference19Ideal.main_v21) = v2
          ∧ r.2.mem (((0 : Dev Cert.Reference19Ideal.nD).tc : Thread Cert.Reference19Ideal.nD Cert.Reference19Ideal.τ).loc Cert.Reference19Ideal.main_v27) = v3
          ∧ r.2.mem (((0 : Dev Cert.Reference19Ideal.nD).tc : Thread Cert.Reference19Ideal.nD Cert.Reference19Ideal.τ).loc Cert.Reference19Ideal.main_arg0) = m' (((0 : Dev Cert.Reference19Ideal.nD).tc : Thread Cert.Reference19Ideal.nD Cert.Reference19Ideal.τ).loc Cert.Reference19Ideal.main_arg0)
          ∧ r.2.mem (((0 : Dev Cert.Reference19Ideal.nD).tc : Thread Cert.Reference19Ideal.nD Cert.Reference19Ideal.τ).loc Cert.Reference19Ideal.main_arg1) = m' (((0 : Dev Cert.Reference19Ideal.nD).tc : Thread Cert.Reference19Ideal.nD Cert.Reference19Ideal.τ).loc Cert.Reference19Ideal.main_arg1)
          ∧ r.2.mem (((0 : Dev Cert.Reference19Ideal.nD).tc : Thread Cert.Reference19Ideal.nD Cert.Reference19Ideal.τ).loc Cert.Reference19Ideal.main_arg2) = m' (((0 : Dev Cert.Reference19Ideal.nD).tc : Thread Cert.Reference19Ideal.nD Cert.Reference19Ideal.τ).loc Cert.Reference19Ideal.main_arg2)
          ∧ r.2.mem (((0 : Dev Cert.Reference19Ideal.nD).tc : Thread Cert.Reference19Ideal.nD Cert.Reference19Ideal.τ).loc Cert.Reference19Ideal.main_arg3) = m' (((0 : Dev Cert.Reference19Ideal.nD).tc : Thread Cert.Reference19Ideal.nD Cert.Reference19Ideal.τ).loc Cert.Reference19Ideal.main_arg3)
          ∧ r.2.mem (((0 : Dev Cert.Reference19Ideal.nD).tc : Thread Cert.Reference19Ideal.nD Cert.Reference19Ideal.τ).loc Cert.Reference19Ideal.main_arg4) = m' (((0 : Dev Cert.Reference19Ideal.nD).tc : Thread Cert.Reference19Ideal.nD Cert.Reference19Ideal.τ).loc Cert.Reference19Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel13 : Cert.Kernel13.Facts) (hKernel13Ideal : Cert.Kernel13Ideal.Facts) (hReference13Ideal : Cert.Reference13Ideal.Facts) (hKernel20 : Cert.Kernel20.Facts) (hKernel20Ideal : Cert.Kernel20Ideal.Facts) (hReference20Ideal : Cert.Reference20Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel12 : Cert.Kernel12.Facts) (hKernel12Ideal : Cert.Kernel12Ideal.Facts) (hReference12Ideal : Cert.Reference12Ideal.Facts) (hKernel11 : Cert.Kernel11.Facts) (hKernel11Ideal : Cert.Kernel11Ideal.Facts) (hReference11Ideal : Cert.Reference11Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel13_Kernel13Ideal
    ∧ algebraic_Kernel13Ideal_Reference13Ideal (hKernel13Ideal := hKernel13Ideal) (hReference13Ideal := hReference13Ideal)
    ∧ preserves_Kernel20_Kernel20Ideal
    ∧ algebraic_Kernel20Ideal_Reference20Ideal (hKernel20Ideal := hKernel20Ideal) (hReference20Ideal := hReference20Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel12_Kernel12Ideal
    ∧ algebraic_Kernel12Ideal_Reference12Ideal (hKernel12Ideal := hKernel12Ideal) (hReference12Ideal := hReference12Ideal)
    ∧ preserves_Kernel11_Kernel11Ideal
    ∧ algebraic_Kernel11Ideal_Reference11Ideal (hKernel11Ideal := hKernel11Ideal) (hReference11Ideal := hReference11Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Kernel.lean ====
abbrev S8192x1024 : Shape := ⟨2, ![8192, 1024]⟩
abbrev S8192x5376 : Shape := ⟨2, ![8192, 5376]⟩
abbrev S1024x1024 : Shape := ⟨2, ![1024, 1024]⟩
abbrev S8192x2048 : Shape := ⟨2, ![8192, 2048]⟩
abbrev S512x1024 : Shape := ⟨2, ![512, 1024]⟩
abbrev S512x2048 : Shape := ⟨2, ![512, 2048]⟩

abbrev nBuf : Space → Nat
  | .hbm => 16
  | .vmem => 23
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x5376, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S8192x1024, .bf16⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S8192x2048, .bf16⟩
  | .hbm, ⟨14, _⟩ => ⟨S8192x1024, .bf16⟩
  | .hbm, ⟨15, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x2048, .bf16⟩
  | .local _ .vmem, ⟨18, _⟩ => ⟨S512x2048, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S8192x1024 : Shape := ⟨2, ![8192, 1024]⟩
abbrev S8192x5376 : Shape := ⟨2, ![8192, 5376]⟩
abbrev S1024x1024 : Shape := ⟨2, ![1024, 1024]⟩
abbrev S8192x2048 : Shape := ⟨2, ![8192, 2048]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x5376, .bf16⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S8192x1024, .bf16⟩
  | .hbm, ⟨7, _⟩ => ⟨S8192x1024, .f32⟩
  | .hbm, ⟨8, _⟩ => ⟨S8192x1024, .f32⟩
  | .hbm, ⟨9, _⟩ => ⟨S8192x5376, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S8192x1024, .f32⟩
  | .hbm, ⟨14, _⟩ => ⟨S8192x2048, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x2048, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x2048, .f32⟩
  | .hbm, ⟨58, _⟩ => ⟨S8192x2048, .f32⟩
  | .hbm, ⟨59, _⟩ => ⟨S8192x1024, .f32⟩
  | .hbm, ⟨60, _⟩ => ⟨S8192x1024, .f32⟩
  | .hbm, ⟨61, _⟩ => ⟨S8192x1024, .bf16⟩
  | .hbm, ⟨62, _⟩ => ⟨S8192x1024, .bf16⟩
  | .hbm, ⟨63, _⟩ => ⟨S8192x2048, .bf16⟩
  | .hbm, ⟨64, _⟩ => ⟨S8192x1024, .bf16⟩
  | .hbm, ⟨65, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Kernel2.lean ====
abbrev S8192x2048 : Shape := ⟨2, ![8192, 2048]⟩
abbrev S8192x1024 : Shape := ⟨2, ![8192, 1024]⟩
abbrev S8192x256 : Shape := ⟨2, ![8192, 256]⟩
abbrev S5376x1024 : Shape := ⟨2, ![5376, 1024]⟩
abbrev S1x1024 : Shape := ⟨2, ![1, 1024]⟩
abbrev S512x2048 : Shape := ⟨2, ![512, 2048]⟩
abbrev S512x1024 : Shape := ⟨2, ![512, 1024]⟩
abbrev S512x256 : Shape := ⟨2, ![512, 256]⟩
abbrev S2048x1024 : Shape := ⟨2, ![2048, 1024]⟩
abbrev S1024x1024 : Shape := ⟨2, ![1024, 1024]⟩
abbrev S256x1024 : Shape := ⟨2, ![256, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x256, .bf16⟩
  | .hbm, ⟨4, _⟩ => ⟨S5376x1024, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .f32⟩
  | .hbm, ⟨9, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x256, .bf16⟩
  | .local _ .vmem, ⟨7, _⟩ => ⟨S512x256, .bf16⟩
  | .local _ .vmem, ⟨8, _⟩ => ⟨S5376x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5376x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S8192x2048 : Shape := ⟨2, ![8192, 2048]⟩
abbrev S8192x1024 : Shape := ⟨2, ![8192, 1024]⟩
abbrev S8192x256 : Shape := ⟨2, ![8192, 256]⟩
abbrev S5376x1024 : Shape := ⟨2, ![5376, 1024]⟩
abbrev S1x1024 : Shape := ⟨2, ![1, 1024]⟩
abbrev S8192x5376 : Shape := ⟨2, ![8192, 5376]⟩
abbrev S_ : Shape := ⟨0, ![]⟩
abbrev S8192 : Shape := ⟨1, ![8192]⟩
abbrev S8192x1 : Shape := ⟨2, ![8192, 1]⟩
abbrev S1024x5376 : Shape := ⟨2, ![1024, 5376]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x1024, .bf16⟩
  | .hbm, ⟨3, _⟩ => ⟨S8192x256, .bf16⟩
  | .hbm, ⟨4, _⟩ => ⟨S5376x1024, .bf16⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x2048, .f32⟩
  | .hbm, ⟨9, _⟩ => ⟨S8192x2048, .f32⟩
  | .hbm, ⟨10, _⟩ => ⟨S8192x1024, .f32⟩
  | .hbm, ⟨11, _⟩ => ⟨S8192x256, .f32⟩
  | .hbm, ⟨12, _⟩ => ⟨S5376x1024, .f32⟩
  | .hbm, ⟨13, _⟩ => ⟨S8192x5376, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S1024x5376, .f32⟩
  | .hbm, ⟨34, _⟩ => ⟨S8192x5376, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel3.lean ====
abbrev S8192x5632 : Shape := ⟨2, ![8192, 5632]⟩
abbrev S5632x1024 : Shape := ⟨2, ![5632, 1024]⟩
abbrev S8192x1024 : Shape := ⟨2, ![8192, 1024]⟩
abbrev S1x1024 : Shape := ⟨2, ![1, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S8192x5632 : Shape := ⟨2, ![8192, 5632]⟩
abbrev S5632x1024 : Shape := ⟨2, ![5632, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x5632, .f32⟩
  | .hbm, ⟨6, _⟩ => ⟨S5632x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1024x5632, .f32⟩
  | .hbm, ⟨27, _⟩ => ⟨S8192x5632, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel4.lean ====
abbrev S8192x1024 : Shape := ⟨2, ![8192, 1024]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩
abbrev S512x1024 : Shape := ⟨2, ![512, 1024]⟩
abbrev S512x2816 : Shape := ⟨2, ![512, 2816]⟩
abbrev S512x5632 : Shape := ⟨2, ![512, 5632]⟩

abbrev nBuf : Space → Nat
  | .hbm => 28
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x5632, .f32⟩
  | .hbm, ⟨26, _⟩ => ⟨S8192x5632, .bf16⟩
  | .hbm, ⟨27, _⟩ => ⟨S8192x5632, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x5632, .bf16⟩
  | .local _ .vmem, ⟨8, _⟩ => ⟨S512x5632, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_cst : Ref sig .tc := ⟨.hbm, 18, rfl⟩
abbrev main_v3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S8192x1024 : Shape := ⟨2, ![8192, 1024]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S2816x1024, .f32⟩
  | .hbm, ⟨26, _⟩ => ⟨S8192x1024, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x5632, .f32⟩
  | .hbm, ⟨33, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_cst : Ref sig .tc := ⟨.hbm, 18, rfl⟩
abbrev main_v3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== Kernel5.lean ====
abbrev S8192x5632 : Shape := ⟨2, ![8192, 5632]⟩
abbrev S8192x1024 : Shape := ⟨2, ![8192, 1024]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8192x5632 : Shape := ⟨2, ![8192, 5632]⟩
abbrev S8192x1024 : Shape := ⟨2, ![8192, 1024]⟩
abbrev S_ : Shape := ⟨0, ![]⟩
abbrev S5632x1024 : Shape := ⟨2, ![5632, 1024]⟩
abbrev S1024x5632 : Shape := ⟨2, ![1024, 5632]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S8192x5632, .f32⟩
  | .hbm, ⟨3, _⟩ => ⟨S8192x1024, .f32⟩
  | .hbm, ⟨4, _⟩ => ⟨S_, .f32⟩
  | .hbm, ⟨5, _⟩ => ⟨S5632x1024, .f32⟩
  | .hbm, ⟨6, _⟩ => ⟨S1024x5632, .f32⟩
  | .hbm, ⟨7, _⟩ => ⟨S8192x5632, .f32⟩
  | .hbm, ⟨8, _⟩ => ⟨S5632x1024, .f32⟩
  | .hbm, ⟨9, _⟩ => ⟨S1024x5632, .f32⟩
  | .hbm, ⟨10, _⟩ => ⟨S5632x1024, .f32⟩
  | .hbm, ⟨11, _⟩ => ⟨S5632x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference7Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S8192x1024, .f32⟩
  | .hbm, ⟨4, _⟩ => ⟨S_, .f32⟩
  | .hbm, ⟨5, _⟩ => ⟨S2048x1024, .f32⟩
  | .hbm, ⟨6, _⟩ => ⟨S1024x2048, .f32⟩
  | .hbm, ⟨7, _⟩ => ⟨S8192x2048, .f32⟩
  | .hbm, ⟨8, _⟩ => ⟨S2048x1024, .f32⟩
  | .hbm, ⟨9, _⟩ => ⟨S1024x2048, .f32⟩
  | .hbm, ⟨10, _⟩ => ⟨S2048x1024, .f32⟩
  | .hbm, ⟨11, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel13.lean ====
abbrev S8192x256 : Shape := ⟨2, ![8192, 256]⟩
abbrev S8192x1024 : Shape := ⟨2, ![8192, 1024]⟩
abbrev S256x1024 : Shape := ⟨2, ![256, 1024]⟩
abbrev S2048x256 : Shape := ⟨2, ![2048, 256]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference13Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S8192x256, .f32⟩
  | .hbm, ⟨3, _⟩ => ⟨S8192x1024, .f32⟩
  | .hbm, ⟨4, _⟩ => ⟨S_, .f32⟩
  | .hbm, ⟨5, _⟩ => ⟨S256x1024, .f32⟩
  | .hbm, ⟨6, _⟩ => ⟨S1024x256, .f32⟩
  | .hbm, ⟨7, _⟩ => ⟨S8192x256, .f32⟩
  | .hbm, ⟨8, _⟩ => ⟨S256x1024, .f32⟩
  | .hbm, ⟨9, _⟩ => ⟨S1024x256, .f32⟩
  | .hbm, ⟨10, _⟩ => ⟨S256x1024, .f32⟩
  | .hbm, ⟨11, _⟩ => ⟨S256x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel20.lean ====
abbrev S2048x1024 : Shape := ⟨2, ![2048, 1024]⟩
abbrev S1024x1024 : Shape := ⟨2, ![1024, 1024]⟩
abbrev S256x1024 : Shape := ⟨2, ![256, 1024]⟩
abbrev S5376x1024 : Shape := ⟨2, ![5376, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S256x1024, .bf16⟩
  | .hbm, ⟨3, _⟩ => ⟨S2048x1024, .bf16⟩
  | .hbm, ⟨4, _⟩ => ⟨S5376x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![21], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c8_i32 : BitVec 32 := 8#32
  let v1 : BitVec 1 := Scalar.cmpi .slt arg0 c8_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c8_i32_1 : BitVec 32 := 8#32
  let v5 : BitVec 1 := Scalar.cmpi .sge arg0 c8_i32_1
  let c12_i32 : BitVec 32 := 12#32
  let v6 : BitVec 1 := Scalar.cmpi .slt arg0 c12_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c12_i32_3 : BitVec 32 := 12#32
  let v10 : BitVec 1 := Scalar.cmpi .sge arg0 c12_i32_3
  let c13_i32 : BitVec 32 := 13#32
  let v11 : BitVec 1 := Scalar.cmpi .slt arg0 c13_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond4 (i : grid0.Coords) : BitVec 1 :=
  let arg0 : BitVec 32 := BitVec.ofNat 32 (i 0).val
  let c13_i32_5 : BitVec 32 := 13#32
  let v15 : BitVec 1 := Scalar.cmpi .sge arg0 c13_i32_5
  let c21_i32 : BitVec 32 := 21#32
  let v16 : BitVec 1 := Scalar.cmpi .slt arg0 c21_i32
  let v17 : BitVec 1 := Scalar.andi v15 v16
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c12_i32 : BitVec 32 := 12#32
  let v0 : BitVec 32 := Scalar.subi arg0 c12_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c13_i32 : BitVec 32 := 13#32
  let v0 : BitVec 32 := Scalar.subi arg0 c13_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference20Ideal.lean ====
abbrev S2048x1024 : Shape := ⟨2, ![2048, 1024]⟩
abbrev S1024x1024 : Shape := ⟨2, ![1024, 1024]⟩
abbrev S256x1024 : Shape := ⟨2, ![256, 1024]⟩
abbrev S5376x1024 : Shape := ⟨2, ![5376, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S256x1024, .bf16⟩
  | .hbm, ⟨3, _⟩ => ⟨S2048x1024, .bf16⟩
  | .hbm, ⟨4, _⟩ => ⟨S5376x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S5376x1024 : Shape := ⟨2, ![5376, 1024]⟩
abbrev S8192x5376 : Shape := ⟨2, ![8192, 5376]⟩
abbrev S512x1024 : Shape := ⟨2, ![512, 1024]⟩
abbrev S512x5376 : Shape := ⟨2, ![512, 5376]⟩
abbrev S512 : Shape := ⟨1, ![512]⟩
abbrev S512x1 : Shape := ⟨2, ![512, 1]⟩
abbrev S2048x1024 : Shape := ⟨2, ![2048, 1024]⟩
abbrev S512x2048 : Shape := ⟨2, ![512, 2048]⟩
abbrev S1280x1024 : Shape := ⟨2, ![1280, 1024]⟩
abbrev S512x1280 : Shape := ⟨2, ![512, 1280]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S5376x1024, .bf16⟩
  | .hbm, ⟨3, _⟩ => ⟨S8192x5376, .bf16⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5376x1024, .bf16⟩
  | .local _ .vmem, ⟨4, _⟩ => ⟨S512x5376, .bf16⟩
  | .local _ .vmem, ⟨5, _⟩ => ⟨S512x5376, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5376x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5376 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S8192x1024 : Shape := ⟨2, ![8192, 1024]⟩
abbrev S1x1024 : Shape := ⟨2, ![1, 1024]⟩
abbrev S5376x1024 : Shape := ⟨2, ![5376, 1024]⟩
abbrev S_ : Shape := ⟨0, ![]⟩
abbrev S8192 : Shape := ⟨1, ![8192]⟩
abbrev S8192x1 : Shape := ⟨2, ![8192, 1]⟩
abbrev S1024x5376 : Shape := ⟨2, ![1024, 5376]⟩
abbrev S8192x5376 : Shape := ⟨2, ![8192, 5376]⟩
abbrev S8192x2048 : Shape := ⟨2, ![8192, 2048]⟩
abbrev S8192x1280 : Shape := ⟨2, ![8192, 1280]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S5376x1024, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S5376x1024, .f32⟩
  | .hbm, ⟨19, _⟩ => ⟨S1024x5376, .f32⟩
  | .hbm, ⟨20, _⟩ => ⟨S8192x5376, .f32⟩
  | .hbm, ⟨21, _⟩ => ⟨S8192x2048, .f32⟩
  | .hbm, ⟨22, _⟩ => ⟨S8192x1280, .f32⟩
  | .hbm, ⟨23, _⟩ => ⟨S8192x2048, .f32⟩
  | .hbm, ⟨24, _⟩ => ⟨S8192x5376, .f32⟩
  | .hbm, ⟨25, _⟩ => ⟨S8192x5376, .bf16⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel10.lean ====
abbrev S8192x1024 : Shape := ⟨2, ![8192, 1024]⟩
abbrev S8192x5376 : Shape := ⟨2, ![8192, 5376]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 24
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x5376, .bf16⟩
  | .hbm, ⟨3, _⟩ => ⟨S8192x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8192x1024, .f32⟩
  | .hbm, ⟨12, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference10Ideal.lean ====
abbrev S8192x1024 : Shape := ⟨2, ![8192, 1024]⟩
abbrev S8192x5376 : Shape := ⟨2, ![8192, 5376]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x5376, .bf16⟩
  | .hbm, ⟨3, _⟩ => ⟨S8192x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x5376, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | .hbm, ⟨40, _⟩ => ⟨S8192x1024, .bf16⟩
  | .hbm, ⟨41, _⟩ => ⟨S8192x1024, .bf16⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel12.lean ====
abbrev S8192x1024 : Shape := ⟨2, ![8192, 1024]⟩
abbrev S5632x1024 : Shape := ⟨2, ![5632, 1024]⟩
abbrev S8192x5632 : Shape := ⟨2, ![8192, 5632]⟩
abbrev S8192x2816 : Shape := ⟨2, ![8192, 2816]⟩
abbrev S512x1024 : Shape := ⟨2, ![512, 1024]⟩
abbrev S512x5632 : Shape := ⟨2, ![512, 5632]⟩
abbrev S512x2816 : Shape := ⟨2, ![512, 2816]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x5632, .bf16⟩
  | .hbm, ⟨3, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S5632x1024, .bf16⟩
  | .local _ .vmem, ⟨3, _⟩ => ⟨S512x5632, .bf16⟩
  | .local _ .vmem, ⟨4, _⟩ => ⟨S512x5632, .bf16⟩
  | .local _ .vmem, ⟨5, _⟩ => ⟨S512x2816, .bf16⟩
  | .local _ .vmem, ⟨6, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x1024, .f32⟩
  | .hbm, ⟨3, _⟩ => ⟨S5632x1024, .f32⟩
  | .hbm, ⟨4, _⟩ => ⟨S1024x5632, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S_, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x5632, .f32⟩
  | .hbm, ⟨29, _⟩ => ⟨S8192x5632, .bf16⟩
  | .hbm, ⟨30, _⟩ => ⟨S8192x2816, .f32⟩
  | .hbm, ⟨31, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v6_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v6_1 : Ref sig .tc := ⟨.hbm, 19, rfl⟩
abbrev main_v6_0 : Ref sig .tc := ⟨.hbm, 20, rfl⟩
abbrev main_cst : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩

abbrev nD : Nat := 1
abbrev τ : Topo := Topo.v7x

variable {F : FTy → Type} [FloatOps F]
-- ==== Kernel11.lean ====
abbrev S8192x2816 : Shape := ⟨2, ![8192, 2816]⟩
abbrev S2816x1024 : Shape := ⟨2, ![2816, 1024]⟩
abbrev S8192x1024 : Shape := ⟨2, ![8192, 1024]⟩
abbrev S8x128 : Shape := ⟨2, ![8, 128]⟩
abbrev S512x2816 : Shape := ⟨2, ![512, 2816]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S8x128, .f32⟩
  | .hbm, ⟨5, _⟩ => ⟨S8192x1024, .f32⟩
  | .hbm, ⟨6, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S8192 : Shape := ⟨1, ![8192]⟩
abbrev S8x128 : Shape := ⟨2, ![8, 128]⟩

abbrev nBuf : Space → Nat
  | .hbm => 37
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x1024, .f32⟩
  | .hbm, ⟨34, _⟩ => ⟨S8192x1024, .f32⟩
  | .hbm, ⟨35, _⟩ => ⟨S8x128, .f32⟩
  | .hbm, ⟨36, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_cst_5 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S48x128 : Shape := ⟨2, ![48, 128]⟩

abbrev nBuf : Space → Nat
  | .hbm => 7
  | .vmem => 7
  | .smem => 0
  | _ => 0

abbrev bufTy : (tb : Table) → Fin (tcTables nBuf tb) → BufTy
  | .hbm, ⟨0, _⟩ => ⟨S48x128, .f32⟩
  | .hbm, ⟨1, _⟩ => ⟨S48x128, .f32⟩
  | .hbm, ⟨2, _⟩ => ⟨S48x128, .f32⟩
  | .hbm, ⟨3, _⟩ => ⟨S48x128, .f32⟩
  | .hbm, ⟨4, _⟩ => ⟨S48x128, .f32⟩
  | .hbm, ⟨5, _⟩ => ⟨S48x128, .f32⟩
  | .hbm, ⟨6, _⟩ => ⟨S48x128, .f32⟩
  | .local _ .vmem, ⟨0, _⟩ => ⟨S48x128, .f32⟩
  | .local _ .vmem, ⟨1, _⟩ => ⟨S48x128, .f32⟩
  | .local _ .vmem, ⟨2, _⟩ => ⟨S48x128, .f32⟩
  | .local _ .vmem, ⟨3, _⟩ => ⟨S48x128, .f32⟩
  | .local _ .vmem, ⟨4, _⟩ => ⟨S48x128, .f32⟩
  | .local _ .vmem, ⟨5, _⟩ => ⟨S48x128, .f32⟩
  | .local _ .vmem, ⟨6, _⟩ => ⟨S48x128, .f32⟩
  | _, _ => ⟨S48x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S48x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S48x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S48x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference14Ideal.lean ====
abbrev S48x128 : Shape := ⟨2, ![48, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S48x128, .f32⟩
  | .hbm, ⟨1, _⟩ => ⟨S48x128, .f32⟩
  | .hbm, ⟨2, _⟩ => ⟨S48x128, .f32⟩
  | .hbm, ⟨3, _⟩ => ⟨S48x128, .f32⟩
  | .hbm, ⟨4, _⟩ => ⟨S_, .f32⟩
  | .hbm, ⟨5, _⟩ => ⟨S48x128, .f32⟩
  | .hbm, ⟨6, _⟩ => ⟨S48x128, .f32⟩
  | .hbm, ⟨7, _⟩ => ⟨S_, .f32⟩
  | .hbm, ⟨8, _⟩ => ⟨S48x128, .f32⟩
  | .hbm, ⟨9, _⟩ => ⟨S48x128, .f32⟩
  | .hbm, ⟨10, _⟩ => ⟨S48x128, .f32⟩
  | .hbm, ⟨11, _⟩ => ⟨S_, .f32⟩
  | .hbm, ⟨12, _⟩ => ⟨S48x128, .f32⟩
  | .hbm, ⟨13, _⟩ => ⟨S48x128, .f32⟩
  | .hbm, ⟨14, _⟩ => ⟨S48x128, .f32⟩
  | .hbm, ⟨15, _⟩ => ⟨S_, .f32⟩
  | .hbm, ⟨16, _⟩ => ⟨S48x128, .f32⟩
  | .hbm, ⟨17, _⟩ => ⟨S48x128, .f32⟩
  | .hbm, ⟨18, _⟩ => ⟨S48x128, .f32⟩
  | .hbm, ⟨19, _⟩ => ⟨S_, .f32⟩
  | .hbm, ⟨20, _⟩ => ⟨S48x128, .f32⟩
  | .hbm, ⟨21, _⟩ => ⟨S48x128, .f32⟩
  | .hbm, ⟨22, _⟩ => ⟨S_, .f32⟩
  | .hbm, ⟨23, _⟩ => ⟨S48x128, .f32⟩
  | .hbm, ⟨24, _⟩ => ⟨S48x128, .f32⟩
  | .hbm, ⟨25, _⟩ => ⟨S48x128, .f32⟩
  | .hbm, ⟨26, _⟩ => ⟨S_, .f32⟩
  | .hbm, ⟨27, _⟩ => ⟨S48x128, .f32⟩
  | .hbm, ⟨28, _⟩ => ⟨S48x128, .f32⟩
  | .hbm, ⟨29, _⟩ => ⟨S48x128, .f32⟩
  | .hbm, ⟨30, _⟩ => ⟨S_, .f32⟩
  | .hbm, ⟨31, _⟩ => ⟨S48x128, .f32⟩
  | .hbm, ⟨32, _⟩ => ⟨S48x128, .f32⟩
  | .hbm, ⟨33, _⟩ => ⟨S48x128, .f32⟩
  | .hbm, ⟨34, _⟩ => ⟨S_, .f32⟩
  | .hbm, ⟨35, _⟩ => ⟨S48x128, .f32⟩
  | .hbm, ⟨36, _⟩ => ⟨S48x128, .f32⟩
  | _, _ => ⟨S48x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S31x1x128 : Shape := ⟨3, ![31, 1, 128]⟩
abbrev S31x128 : Shape := ⟨2, ![31, 128]⟩

abbrev nBuf : Space → Nat
  | .hbm => 11
  | .vmem => 7
  | .smem => 0
  | _ => 0

abbrev bufTy : (tb : Table) → Fin (tcTables nBuf tb) → BufTy
  | .hbm, ⟨0, _⟩ => ⟨S31x1x128, .f32⟩
  | .hbm, ⟨1, _⟩ => ⟨S31x1x128, .f32⟩
  | .hbm, ⟨2, _⟩ => ⟨S31x1x128, .f32⟩
  | .hbm, ⟨3, _⟩ => ⟨S31x1x128, .f32⟩
  | .hbm, ⟨4, _⟩ => ⟨S31x128, .f32⟩
  | .hbm, ⟨5, _⟩ => ⟨S31x128, .f32⟩
  | .hbm, ⟨6, _⟩ => ⟨S31x128, .f32⟩
  | .hbm, ⟨7, _⟩ => ⟨S31x128, .f32⟩
  | .hbm, ⟨8, _⟩ => ⟨S31x128, .f32⟩
  | .hbm, ⟨9, _⟩ => ⟨S31x128, .f32⟩
  | .hbm, ⟨10, _⟩ => ⟨S31x128, .f32⟩
  | .local _ .vmem, ⟨0, _⟩ => ⟨S31x128, .f32⟩
  | .local _ .vmem, ⟨1, _⟩ => ⟨S31x128, .f32⟩
  | .local _ .vmem, ⟨2, _⟩ => ⟨S31x128, .f32⟩
  | .local _ .vmem, ⟨3, _⟩ => ⟨S31x128, .f32⟩
  | .local _ .vmem, ⟨4, _⟩ => ⟨S31x128, .f32⟩
  | .local _ .vmem, ⟨5, _⟩ => ⟨S31x128, .f32⟩
  | .local _ .vmem, ⟨6, _⟩ => ⟨S31x128, .f32⟩
  | _, _ => ⟨S31x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference15Ideal.lean ====
abbrev S31x1x128 : Shape := ⟨3, ![31, 1, 128]⟩
abbrev S_ : Shape := ⟨0, ![]⟩
abbrev S31x128 : Shape := ⟨2, ![31, 128]⟩

abbrev nBuf : Space → Nat
  | .hbm => 40
  | .vmem => 0
  | .smem => 0
  | _ => 0

abbrev bufTy : (tb : Table) → Fin (tcTables nBuf tb) → BufTy
  | .hbm, ⟨0, _⟩ => ⟨S31x1x128, .f32⟩
  | .hbm, ⟨1, _⟩ => ⟨S31x1x128, .f32⟩
  | .hbm, ⟨2, _⟩ => ⟨S31x1x128, .f32⟩
  | .hbm, ⟨3, _⟩ => ⟨S31x1x128, .f32⟩
  | .hbm, ⟨4, _⟩ => ⟨S_, .f32⟩
  | .hbm, ⟨5, _⟩ => ⟨S31x1x128, .f32⟩
  | .hbm, ⟨6, _⟩ => ⟨S31x1x128, .f32⟩
  | .hbm, ⟨7, _⟩ => ⟨S_, .f32⟩
  | .hbm, ⟨8, _⟩ => ⟨S31x1x128, .f32⟩
  | .hbm, ⟨9, _⟩ => ⟨S31x1x128, .f32⟩
  | .hbm, ⟨10, _⟩ => ⟨S31x1x128, .f32⟩
  | .hbm, ⟨11, _⟩ => ⟨S_, .f32⟩
  | .hbm, ⟨12, _⟩ => ⟨S31x1x128, .f32⟩
  | .hbm, ⟨13, _⟩ => ⟨S31x1x128, .f32⟩
  | .hbm, ⟨14, _⟩ => ⟨S31x1x128, .f32⟩
  | .hbm, ⟨15, _⟩ => ⟨S_, .f32⟩
  | .hbm, ⟨16, _⟩ => ⟨S31x1x128, .f32⟩
  | .hbm, ⟨17, _⟩ => ⟨S31x1x128, .f32⟩
  | .hbm, ⟨18, _⟩ => ⟨S31x1x128, .f32⟩
  | .hbm, ⟨19, _⟩ => ⟨S_, .f32⟩
  | .hbm, ⟨20, _⟩ => ⟨S31x1x128, .f32⟩
  | .hbm, ⟨21, _⟩ => ⟨S31x1x128, .f32⟩
  | .hbm, ⟨22, _⟩ => ⟨S_, .f32⟩
  | .hbm, ⟨23, _⟩ => ⟨S31x1x128, .f32⟩
  | .hbm, ⟨24, _⟩ => ⟨S31x1x128, .f32⟩
  | .hbm, ⟨25, _⟩ => ⟨S31x1x128, .f32⟩
  | .hbm, ⟨26, _⟩ => ⟨S_, .f32⟩
  | .hbm, ⟨27, _⟩ => ⟨S31x1x128, .f32⟩
  | .hbm, ⟨28, _⟩ => ⟨S31x1x128, .f32⟩
  | .hbm, ⟨29, _⟩ => ⟨S31x1x128, .f32⟩
  | .hbm, ⟨30, _⟩ => ⟨S_, .f32⟩
  | .hbm, ⟨31, _⟩ => ⟨S31x1x128, .f32⟩
  | .hbm, ⟨32, _⟩ => ⟨S31x1x128, .f32⟩
  | .hbm, ⟨33, _⟩ => ⟨S31x1x128, .f32⟩
  | .hbm, ⟨34, _⟩ => ⟨S_, .f32⟩
  | .hbm, ⟨35, _⟩ => ⟨S31x1x128, .f32⟩
  | .hbm, ⟨36, _⟩ => ⟨S31x1x128, .f32⟩
  | .hbm, ⟨37, _⟩ => ⟨S31x128, .f32⟩
  | .hbm, ⟨38, _⟩ => ⟨S31x128, .f32⟩
  | .hbm, ⟨39, _⟩ => ⟨S31x128, .f32⟩
  | _, _ => ⟨S31x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel16.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S8x128x1024, .bf16⟩
  | .local _ .vmem, ⟨1, _⟩ => ⟨S128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 8
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference16Ideal.lean ====
abbrev S8x1024x1024 : Shape := ⟨3, ![8, 1024, 1024]⟩
abbrev S1024x1024 : Shape := ⟨2, ![1024, 1024]⟩
abbrev S8 : Shape := ⟨1, ![8]⟩
abbrev S8x1x1 : Shape := ⟨3, ![8, 1, 1]⟩
abbrev S1024 : Shape := ⟨1, ![1024]⟩
abbrev S_ : Shape := ⟨0, ![]⟩
abbrev S1x1024x1 : Shape := ⟨3, ![1, 1024, 1]⟩
abbrev S8x1024x1 : Shape := ⟨3, ![8, 1024, 1]⟩

abbrev nBuf : Space → Nat
  | .hbm => 58
  | .vmem => 0
  | .smem => 0
  | _ => 0

abbrev bufTy : (tb : Table) → Fin (tcTables nBuf tb) → BufTy
  | .hbm, ⟨0, _⟩ => ⟨S8x1024x1024, .bf16⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8, .i32⟩
  | .hbm, ⟨6, _⟩ => ⟨S8x1x1, .i32⟩
  | .hbm, ⟨7, _⟩ => ⟨S1024, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1x1024x1, .i32⟩
  | .hbm, ⟨12, _⟩ => ⟨S8x1024x1, .i32⟩
  | .hbm, ⟨13, _⟩ => ⟨S8x1024x1, .i32⟩
  | .hbm, ⟨14, _⟩ => ⟨S8x1024x1, .i1⟩
  | .hbm, ⟨15, _⟩ => ⟨S8x1024x1024, .f32⟩
  | .hbm, ⟨16, _⟩ => ⟨S_, .f32⟩
  | .hbm, ⟨17, _⟩ => ⟨S_, .f32⟩
  | .hbm, ⟨18, _⟩ => ⟨S8x1024x1024, .i1⟩
  | .hbm, ⟨19, _⟩ => ⟨S8x1024x1024, .f32⟩
  | .hbm, ⟨20, _⟩ => ⟨S8x1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S_, .f32⟩
  | .hbm, ⟨29, _⟩ => ⟨S1024x1024, .f32⟩
  | .hbm, ⟨30, _⟩ => ⟨S1024x1024, .f32⟩
  | .hbm, ⟨31, _⟩ => ⟨S1024x1024, .f32⟩
  | .hbm, ⟨32, _⟩ => ⟨S_, .f32⟩
  | .hbm, ⟨33, _⟩ => ⟨S1024x1024, .f32⟩
  | .hbm, ⟨34, _⟩ => ⟨S1024x1024, .f32⟩
  | .hbm, ⟨35, _⟩ => ⟨S1024x1024, .f32⟩
  | .hbm, ⟨36, _⟩ => ⟨S_, .f32⟩
  | .hbm, ⟨37, _⟩ => ⟨S1024x1024, .f32⟩
  | .hbm, ⟨38, _⟩ => ⟨S1024x1024, .f32⟩
  | .hbm, ⟨39, _⟩ => ⟨S1024x1024, .f32⟩
  | .hbm, ⟨40, _⟩ => ⟨S_, .f32⟩
  | .hbm, ⟨41, _⟩ => ⟨S1024x1024, .f32⟩
  | .hbm, ⟨42, _⟩ => ⟨S1024x1024, .f32⟩
  | .hbm, ⟨43, _⟩ => ⟨S_, .f32⟩
  | .hbm, ⟨44, _⟩ => ⟨S1024x1024, .f32⟩
  | .hbm, ⟨45, _⟩ => ⟨S1024x1024, .f32⟩
  | .hbm, ⟨46, _⟩ => ⟨S1024x1024, .f32⟩
  | .hbm, ⟨47, _⟩ => ⟨S_, .f32⟩
  | .hbm, ⟨48, _⟩ => ⟨S1024x1024, .f32⟩
  | .hbm, ⟨49, _⟩ => ⟨S1024x1024, .f32⟩
  | .hbm, ⟨50, _⟩ => ⟨S1024x1024, .f32⟩
  | .hbm, ⟨51, _⟩ => ⟨S_, .f32⟩
  | .hbm, ⟨52, _⟩ => ⟨S1024x1024, .f32⟩
  | .hbm, ⟨53, _⟩ => ⟨S1024x1024, .f32⟩
  | .hbm, ⟨54, _⟩ => ⟨S1024x1024, .f32⟩
  | .hbm, ⟨55, _⟩ => ⟨S_, .f32⟩
  | .hbm, ⟨56, _⟩ => ⟨S1024x1024, .f32⟩
  | .hbm, ⟨57, _⟩ => ⟨S1024x1024, .f32⟩
  | _, _ => ⟨S8x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Kernel17.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .bf16⟩
  | .local _ .vmem, ⟨3, _⟩ => ⟨S176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 8
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S8x2816x1024 : Shape := ⟨3, ![8, 2816, 1024]⟩
abbrev S2816x1024 : Shape := ⟨2, ![2816, 1024]⟩
abbrev S8 : Shape := ⟨1, ![8]⟩
abbrev S8x1x1 : Shape := ⟨3, ![8, 1, 1]⟩
abbrev S2816 : Shape := ⟨1, ![2816]⟩
abbrev S_ : Shape := ⟨0, ![]⟩
abbrev S1x2816x1 : Shape := ⟨3, ![1, 2816, 1]⟩
abbrev S8x2816x1 : Shape := ⟨3, ![8, 2816, 1]⟩

abbrev nBuf : Space → Nat
  | .hbm => 58
  | .vmem => 0
  | .smem => 0
  | _ => 0

abbrev bufTy : (tb : Table) → Fin (tcTables nBuf tb) → BufTy
  | .hbm, ⟨0, _⟩ => ⟨S8x2816x1024, .bf16⟩
  | .hbm, ⟨1, _⟩ => ⟨S2816x1024, .bf16⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S8, .i32⟩
  | .hbm, ⟨6, _⟩ => ⟨S8x1x1, .i32⟩
  | .hbm, ⟨7, _⟩ => ⟨S2816, .i32⟩
  | .hbm, ⟨8, _⟩ => ⟨S_, .i32⟩
  | .hbm, ⟨9, _⟩ => ⟨S2816, .i32⟩
  | .hbm, ⟨10, _⟩ => ⟨S2816, .i32⟩
  | .hbm, ⟨11, _⟩ => ⟨S1x2816x1, .i32⟩
  | .hbm, ⟨12, _⟩ => ⟨S8x2816x1, .i32⟩
  | .hbm, ⟨13, _⟩ => ⟨S8x2816x1, .i32⟩
  | .hbm, ⟨14, _⟩ => ⟨S8x2816x1, .i1⟩
  | .hbm, ⟨15, _⟩ => ⟨S8x2816x1024, .f32⟩
  | .hbm, ⟨16, _⟩ => ⟨S_, .f32⟩
  | .hbm, ⟨17, _⟩ => ⟨S_, .f32⟩
  | .hbm, ⟨18, _⟩ => ⟨S8x2816x1024, .i1⟩
  | .hbm, ⟨19, _⟩ => ⟨S8x2816x1024, .f32⟩
  | .hbm, ⟨20, _⟩ => ⟨S8x2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S_, .f32⟩
  | .hbm, ⟨26, _⟩ => ⟨S2816x1024, .f32⟩
  | .hbm, ⟨27, _⟩ => ⟨S2816x1024, .f32⟩
  | .hbm, ⟨28, _⟩ => ⟨S_, .f32⟩
  | .hbm, ⟨29, _⟩ => ⟨S2816x1024, .f32⟩
  | .hbm, ⟨30, _⟩ => ⟨S2816x1024, .f32⟩
  | .hbm, ⟨31, _⟩ => ⟨S2816x1024, .f32⟩
  | .hbm, ⟨32, _⟩ => ⟨S_, .f32⟩
  | .hbm, ⟨33, _⟩ => ⟨S2816x1024, .f32⟩
  | .hbm, ⟨34, _⟩ => ⟨S2816x1024, .f32⟩
  | .hbm, ⟨35, _⟩ => ⟨S2816x1024, .f32⟩
  | .hbm, ⟨36, _⟩ => ⟨S_, .f32⟩
  | .hbm, ⟨37, _⟩ => ⟨S2816x1024, .f32⟩
  | .hbm, ⟨38, _⟩ => ⟨S2816x1024, .f32⟩
  | .hbm, ⟨39, _⟩ => ⟨S2816x1024, .f32⟩
  | .hbm, ⟨40, _⟩ => ⟨S_, .f32⟩
  | .hbm, ⟨41, _⟩ => ⟨S2816x1024, .f32⟩
  | .hbm, ⟨42, _⟩ => ⟨S2816x1024, .f32⟩
  | .hbm, ⟨43, _⟩ => ⟨S_, .f32⟩
  | .hbm, ⟨44, _⟩ => ⟨S2816x1024, .f32⟩
  | .hbm, ⟨45, _⟩ => ⟨S2816x1024, .f32⟩
  | .hbm, ⟨46, _⟩ => ⟨S2816x1024, .f32⟩
  | .hbm, ⟨47, _⟩ => ⟨S_, .f32⟩
  | .hbm, ⟨48, _⟩ => ⟨S2816x1024, .f32⟩
  | .hbm, ⟨49, _⟩ => ⟨S2816x1024, .f32⟩
  | .hbm, ⟨50, _⟩ => ⟨S2816x1024, .f32⟩
  | .hbm, ⟨51, _⟩ => ⟨S_, .f32⟩
  | .hbm, ⟨52, _⟩ => ⟨S2816x1024, .f32⟩
  | .hbm, ⟨53, _⟩ => ⟨S2816x1024, .f32⟩
  | .hbm, ⟨54, _⟩ => ⟨S2816x1024, .f32⟩
  | .hbm, ⟨55, _⟩ => ⟨S_, .f32⟩
  | .hbm, ⟨56, _⟩ => ⟨S2816x1024, .f32⟩
  | .hbm, ⟨57, _⟩ => ⟨S2816x1024, .f32⟩
  | _, _ => ⟨S8x2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Kernel18.lean ====
abbrev S8x672x1024 : Shape := ⟨3, ![8, 672, 1024]⟩
abbrev S672x1024 : Shape := ⟨2, ![672, 1024]⟩
abbrev S1024x672 : Shape := ⟨2, ![1024, 672]⟩
abbrev S8x336x1024 : Shape := ⟨3, ![8, 336, 1024]⟩
abbrev S336x1024 : Shape := ⟨2, ![336, 1024]⟩
abbrev S1x336x1024 : Shape := ⟨3, ![1, 336, 1024]⟩

abbrev nBuf : Space → Nat
  | .hbm => 12
  | .vmem => 18
  | .smem => 0
  | _ => 0

abbrev bufTy : (tb : Table) → Fin (tcTables nBuf tb) → BufTy
  | .hbm, ⟨0, _⟩ => ⟨S8x672x1024, .bf16⟩
  | .hbm, ⟨1, _⟩ => ⟨S672x1024, .bf16⟩
  | .hbm, ⟨2, _⟩ => ⟨S1024x672, .f32⟩
  | .hbm, ⟨3, _⟩ => ⟨S1024x672, .f32⟩
  | .hbm, ⟨4, _⟩ => ⟨S1024x672, .f32⟩
  | .hbm, ⟨5, _⟩ => ⟨S672x1024, .f32⟩
  | .hbm, ⟨6, _⟩ => ⟨S672x1024, .f32⟩
  | .hbm, ⟨7, _⟩ => ⟨S672x1024, .f32⟩
  | .hbm, ⟨8, _⟩ => ⟨S672x1024, .f32⟩
  | .hbm, ⟨9, _⟩ => ⟨S672x1024, .f32⟩
  | .hbm, ⟨10, _⟩ => ⟨S672x1024, .f32⟩
  | .hbm, ⟨11, _⟩ => ⟨S672x1024, .f32⟩
  | .local _ .vmem, ⟨0, _⟩ => ⟨S8x336x1024, .bf16⟩
  | .local _ .vmem, ⟨1, _⟩ => ⟨S8x336x1024, .bf16⟩
  | .local _ .vmem, ⟨2, _⟩ => ⟨S336x1024, .bf16⟩
  | .local _ .vmem, ⟨3, _⟩ => ⟨S336x1024, .bf16⟩
  | .local _ .vmem, ⟨4, _⟩ => ⟨S336x1024, .f32⟩
  | .local _ .vmem, ⟨5, _⟩ => ⟨S336x1024, .f32⟩
  | .local _ .vmem, ⟨6, _⟩ => ⟨S336x1024, .f32⟩
  | .local _ .vmem, ⟨7, _⟩ => ⟨S336x1024, .f32⟩
  | .local _ .vmem, ⟨8, _⟩ => ⟨S336x1024, .f32⟩
  | .local _ .vmem, ⟨9, _⟩ => ⟨S336x1024, .f32⟩
  | .local _ .vmem, ⟨10, _⟩ => ⟨S336x1024, .f32⟩
  | .local _ .vmem, ⟨11, _⟩ => ⟨S336x1024, .f32⟩
  | .local _ .vmem, ⟨12, _⟩ => ⟨S336x1024, .f32⟩
  | .local _ .vmem, ⟨13, _⟩ => ⟨S336x1024, .f32⟩
  | .local _ .vmem, ⟨14, _⟩ => ⟨S336x1024, .f32⟩
  | .local _ .vmem, ⟨15, _⟩ => ⟨S336x1024, .f32⟩
  | .local _ .vmem, ⟨16, _⟩ => ⟨S336x1024, .f32⟩
  | .local _ .vmem, ⟨17, _⟩ => ⟨S336x1024, .f32⟩
  | _, _ => ⟨S8x672x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 8
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x336x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S336x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S336x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S336x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S336x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S336x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S336x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S336x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S336x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference18Ideal.lean ====
abbrev S8x5376x1024 : Shape := ⟨3, ![8, 5376, 1024]⟩
abbrev S5376x1024 : Shape := ⟨2, ![5376, 1024]⟩
abbrev S1024x5376 : Shape := ⟨2, ![1024, 5376]⟩
abbrev S8 : Shape := ⟨1, ![8]⟩
abbrev S8x1x1 : Shape := ⟨3, ![8, 1, 1]⟩
abbrev S5376 : Shape := ⟨1, ![5376]⟩
abbrev S_ : Shape := ⟨0, ![]⟩
abbrev S1x5376x1 : Shape := ⟨3, ![1, 5376, 1]⟩
abbrev S8x5376x1 : Shape := ⟨3, ![8, 5376, 1]⟩

abbrev nBuf : Space → Nat
  | .hbm => 61
  | .vmem => 0
  | .smem => 0
  | _ => 0

abbrev bufTy : (tb : Table) → Fin (tcTables nBuf tb) → BufTy
  | .hbm, ⟨0, _⟩ => ⟨S8x5376x1024, .bf16⟩
  | .hbm, ⟨1, _⟩ => ⟨S5376x1024, .bf16⟩
  | .hbm, ⟨2, _⟩ => ⟨S1024x5376, .f32⟩
  | .hbm, ⟨3, _⟩ => ⟨S1024x5376, .f32⟩
  | .hbm, ⟨4, _⟩ => ⟨S1024x5376, .f32⟩
  | .hbm, ⟨5, _⟩ => ⟨S8, .i32⟩
  | .hbm, ⟨6, _⟩ => ⟨S8x1x1, .i32⟩
  | .hbm, ⟨7, _⟩ => ⟨S5376, .i32⟩
  | .hbm, ⟨8, _⟩ => ⟨S_, .i32⟩
  | .hbm, ⟨9, _⟩ => ⟨S5376, .i32⟩
  | .hbm, ⟨10, _⟩ => ⟨S5376, .i32⟩
  | .hbm, ⟨11, _⟩ => ⟨S1x5376x1, .i32⟩
  | .hbm, ⟨12, _⟩ => ⟨S8x5376x1, .i32⟩
  | .hbm, ⟨13, _⟩ => ⟨S8x5376x1, .i32⟩
  | .hbm, ⟨14, _⟩ => ⟨S8x5376x1, .i1⟩
  | .hbm, ⟨15, _⟩ => ⟨S8x5376x1024, .f32⟩
  | .hbm, ⟨16, _⟩ => ⟨S_, .f32⟩
  | .hbm, ⟨17, _⟩ => ⟨S_, .f32⟩
  | .hbm, ⟨18, _⟩ => ⟨S8x5376x1024, .i1⟩
  | .hbm, ⟨19, _⟩ => ⟨S8x5376x1024, .f32⟩
  | .hbm, ⟨20, _⟩ => ⟨S8x5376x1024, .f32⟩
  | .hbm, ⟨21, _⟩ => ⟨S5376x1024, .f32⟩
  | .hbm, ⟨22, _⟩ => ⟨S_, .f32⟩
  | .hbm, ⟨23, _⟩ => ⟨S5376x1024, .f32⟩
  | .hbm, ⟨24, _⟩ => ⟨S5376x1024, .f32⟩
  | .hbm, ⟨25, _⟩ => ⟨S5376x1024, .f32⟩
  | .hbm, ⟨26, _⟩ => ⟨S5376x1024, .f32⟩
  | .hbm, ⟨27, _⟩ => ⟨S5376x1024, .f32⟩
  | .hbm, ⟨28, _⟩ => ⟨S_, .f32⟩
  | .hbm, ⟨29, _⟩ => ⟨S5376x1024, .f32⟩
  | .hbm, ⟨30, _⟩ => ⟨S5376x1024, .f32⟩
  | .hbm, ⟨31, _⟩ => ⟨S_, .f32⟩
  | .hbm, ⟨32, _⟩ => ⟨S5376x1024, .f32⟩
  | .hbm, ⟨33, _⟩ => ⟨S5376x1024, .f32⟩
  | .hbm, ⟨34, _⟩ => ⟨S5376x1024, .f32⟩
  | .hbm, ⟨35, _⟩ => ⟨S_, .f32⟩
  | .hbm, ⟨36, _⟩ => ⟨S5376x1024, .f32⟩
  | .hbm, ⟨37, _⟩ => ⟨S5376x1024, .f32⟩
  | .hbm, ⟨38, _⟩ => ⟨S5376x1024, .f32⟩
  | .hbm, ⟨39, _⟩ => ⟨S_, .f32⟩
  | .hbm, ⟨40, _⟩ => ⟨S5376x1024, .f32⟩
  | .hbm, ⟨41, _⟩ => ⟨S5376x1024, .f32⟩
  | .hbm, ⟨42, _⟩ => ⟨S5376x1024, .f32⟩
  | .hbm, ⟨43, _⟩ => ⟨S_, .f32⟩
  | .hbm, ⟨44, _⟩ => ⟨S5376x1024, .f32⟩
  | .hbm, ⟨45, _⟩ => ⟨S5376x1024, .f32⟩
  | .hbm, ⟨46, _⟩ => ⟨S_, .f32⟩
  | .hbm, ⟨47, _⟩ => ⟨S5376x1024, .f32⟩
  | .hbm, ⟨48, _⟩ => ⟨S5376x1024, .f32⟩
  | .hbm, ⟨49, _⟩ => ⟨S5376x1024, .f32⟩
  | .hbm, ⟨50, _⟩ => ⟨S_, .f32⟩
  | .hbm, ⟨51, _⟩ => ⟨S5376x1024, .f32⟩
  | .hbm, ⟨52, _⟩ => ⟨S5376x1024, .f32⟩
  | .hbm, ⟨53, _⟩ => ⟨S5376x1024, .f32⟩
  | .hbm, ⟨54, _⟩ => ⟨S_, .f32⟩
  | .hbm, ⟨55, _⟩ => ⟨S5376x1024, .f32⟩
  | .hbm, ⟨56, _⟩ => ⟨S5376x1024, .f32⟩
  | .hbm, ⟨57, _⟩ => ⟨S5376x1024, .f32⟩
  | .hbm, ⟨58, _⟩ => ⟨S_, .f32⟩
  | .hbm, ⟨59, _⟩ => ⟨S5376x1024, .f32⟩
  | .hbm, ⟨60, _⟩ => ⟨S5376x1024, .f32⟩
  | _, _ => ⟨S8x5376x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Kernel19.lean ====
abbrev S8x704x1024 : Shape := ⟨3, ![8, 704, 1024]⟩
abbrev S704x1024 : Shape := ⟨2, ![704, 1024]⟩
abbrev S1024x704 : Shape := ⟨2, ![1024, 704]⟩
abbrev S8x352x1024 : Shape := ⟨3, ![8, 352, 1024]⟩
abbrev S352x1024 : Shape := ⟨2, ![352, 1024]⟩
abbrev S1x352x1024 : Shape := ⟨3, ![1, 352, 1024]⟩

abbrev nBuf : Space → Nat
  | .hbm => 12
  | .vmem => 18
  | .smem => 0
  | _ => 0

abbrev bufTy : (tb : Table) → Fin (tcTables nBuf tb) → BufTy
  | .hbm, ⟨0, _⟩ => ⟨S8x704x1024, .bf16⟩
  | .hbm, ⟨1, _⟩ => ⟨S704x1024, .bf16⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S352x1024, .bf16⟩
  | .local _ .vmem, ⟨3, _⟩ => ⟨S352x1024, .bf16⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 8
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference19Ideal.lean ====
abbrev S8x5632x1024 : Shape := ⟨3, ![8, 5632, 1024]⟩
abbrev S5632x1024 : Shape := ⟨2, ![5632, 1024]⟩
abbrev S1024x5632 : Shape := ⟨2, ![1024, 5632]⟩
abbrev S8 : Shape := ⟨1, ![8]⟩
abbrev S8x1x1 : Shape := ⟨3, ![8, 1, 1]⟩
abbrev S5632 : Shape := ⟨1, ![5632]⟩
abbrev S_ : Shape := ⟨0, ![]⟩
abbrev S1x5632x1 : Shape := ⟨3, ![1, 5632, 1]⟩
abbrev S8x5632x1 : Shape := ⟨3, ![8, 5632, 1]⟩

abbrev nBuf : Space → Nat
  | .hbm => 61
  | .vmem => 0
  | .smem => 0
  | _ => 0

abbrev bufTy : (tb : Table) → Fin (tcTables nBuf tb) → BufTy
  | .hbm, ⟨0, _⟩ => ⟨S8x5632x1024, .bf16⟩
  | .hbm, ⟨1, _⟩ => ⟨S5632x1024, .bf16⟩
  | .hbm, ⟨2, _⟩ => ⟨S1024x5632, .f32⟩
  | .hbm, ⟨3, _⟩ => ⟨S1024x5632, .f32⟩
  | .hbm, ⟨4, _⟩ => ⟨S1024x5632, .f32⟩
  | .hbm, ⟨5, _⟩ => ⟨S8, .i32⟩
  | .hbm, ⟨6, _⟩ => ⟨S8x1x1, .i32⟩
  | .hbm, ⟨7, _⟩ => ⟨S5632, .i32⟩
  | .hbm, ⟨8, _⟩ => ⟨S_, .i32⟩
  | .hbm, ⟨9, _⟩ => ⟨S5632, .i32⟩
  | .hbm, ⟨10, _⟩ => ⟨S5632, .i32⟩
  | .hbm, ⟨11, _⟩ => ⟨S1x5632x1, .i32⟩
  | .hbm, ⟨12, _⟩ => ⟨S8x5632x1, .i32⟩
  | .hbm, ⟨13, _⟩ => ⟨S8x5632x1, .i32⟩
  | .hbm, ⟨14, _⟩ => ⟨S8x5632x1, .i1⟩
  | .hbm, ⟨15, _⟩ => ⟨S8x5632x1024, .f32⟩
  | .hbm, ⟨16, _⟩ => ⟨S_, .f32⟩
  | .hbm, ⟨17, _⟩ => ⟨S_, .f32⟩
  | .hbm, ⟨18, _⟩ => ⟨S8x5632x1024, .i1⟩
  | .hbm, ⟨19, _⟩ => ⟨S8x5632x1024, .f32⟩
  | .hbm, ⟨20, _⟩ => ⟨S8x5632x1024, .f32⟩
  | .hbm, ⟨21, _⟩ => ⟨S5632x1024, .f32⟩
  | .hbm, ⟨22, _⟩ => ⟨S_, .f32⟩
  | .hbm, ⟨23, _⟩ => ⟨S5632x1024, .f32⟩
  | .hbm, ⟨24, _⟩ => ⟨S5632x1024, .f32⟩
  | .hbm, ⟨25, _⟩ => ⟨S5632x1024, .f32⟩
  | .hbm, ⟨26, _⟩ => ⟨S5632x1024, .f32⟩
  | .hbm, ⟨27, _⟩ => ⟨S5632x1024, .f32⟩
  | .hbm, ⟨28, _⟩ => ⟨S_, .f32⟩
  | .hbm, ⟨29, _⟩ => ⟨S5632x1024, .f32⟩
  | .hbm, ⟨30, _⟩ => ⟨S5632x1024, .f32⟩
  | .hbm, ⟨31, _⟩ => ⟨S_, .f32⟩
  | .hbm, ⟨32, _⟩ => ⟨S5632x1024, .f32⟩
  | .hbm, ⟨33, _⟩ => ⟨S5632x1024, .f32⟩
  | .hbm, ⟨34, _⟩ => ⟨S5632x1024, .f32⟩
  | .hbm, ⟨35, _⟩ => ⟨S_, .f32⟩
  | .hbm, ⟨36, _⟩ => ⟨S5632x1024, .f32⟩
  | .hbm, ⟨37, _⟩ => ⟨S5632x1024, .f32⟩
  | .hbm, ⟨38, _⟩ => ⟨S5632x1024, .f32⟩
  | .hbm, ⟨39, _⟩ => ⟨S_, .f32⟩
  | .hbm, ⟨40, _⟩ => ⟨S5632x1024, .f32⟩
  | .hbm, ⟨41, _⟩ => ⟨S5632x1024, .f32⟩
  | .hbm, ⟨42, _⟩ => ⟨S5632x1024, .f32⟩
  | .hbm, ⟨43, _⟩ => ⟨S_, .f32⟩
  | .hbm, ⟨44, _⟩ => ⟨S5632x1024, .f32⟩
  | .hbm, ⟨45, _⟩ => ⟨S5632x1024, .f32⟩
  | .hbm, ⟨46, _⟩ => ⟨S_, .f32⟩
  | .hbm, ⟨47, _⟩ => ⟨S5632x1024, .f32⟩
  | .hbm, ⟨48, _⟩ => ⟨S5632x1024, .f32⟩
  | .hbm, ⟨49, _⟩ => ⟨S5632x1024, .f32⟩
  | .hbm, ⟨50, _⟩ => ⟨S_, .f32⟩
  | .hbm, ⟨51, _⟩ => ⟨S5632x1024, .f32⟩
  | .hbm, ⟨52, _⟩ => ⟨S5632x1024, .f32⟩
  | .hbm, ⟨53, _⟩ => ⟨S5632x1024, .f32⟩
  | .hbm, ⟨54, _⟩ => ⟨S_, .f32⟩
  | .hbm, ⟨55, _⟩ => ⟨S5632x1024, .f32⟩
  | .hbm, ⟨56, _⟩ => ⟨S5632x1024, .f32⟩
  | .hbm, ⟨57, _⟩ => ⟨S5632x1024, .f32⟩
  | .hbm, ⟨58, _⟩ => ⟨S_, .f32⟩
  | .hbm, ⟨59, _⟩ => ⟨S5632x1024, .f32⟩
  | .hbm, ⟨60, _⟩ => ⟨S5632x1024, .f32⟩
  | _, _ => ⟨S8x5632x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Proof.MergeBwd.lean ====
module

public import proofs.«01_k».proof.Proof.Gen.KernelIdeal.Frame
public import proofs.«01_k».proof.Proof.Gen.ReferenceIdeal.Read
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.MergeBwd

open Cert.KernelIdeal Cert.KernelIdeal.Gen

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![0, 0] ∧ win0_4.index t = ![t.val, 2] ∧ win0_5.index t = ![t.val, 3] ∧ win0_6.index t = ![t.val, 0]
    ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0] :=
  (by decide +kernel : ∀ t : Fin grid0.N, _)

/-- the gate columns of the convolution branch, as the body reads them -/
theorem X4 (c : Dev nD) (t : Fin cfg0.N) (y : S512x1024.Idx) (j : S8192x5376.Idx)
    (h0 : (j 0 : ℕ) = t.val * 512 + (y 0 : ℕ)) (h1 : (j 1 : ℕ) = 2048 + (y 1 : ℕ)) :
    X0_4 m c t y = m ((c : Thread nD τ).loc main_arg2) j := by
  unfold X0_4 Pipeline.Window.fill
  rw [dif_pos (moved0_4 t y)]
  blk_simp [iblk]
  rw [V_main_arg2]
  blk_ext [idx t]

/-- and those of the attention branch -/
theorem X5 (c : Dev nD) (t : Fin cfg0.N) (y : S512x1024.Idx) (j : S8192x5376.Idx)
    (h0 : (j 0 : ℕ) = t.val * 512 + (y 0 : ℕ)) (h1 : (j 1 : ℕ) = 3072 + (y 1 : ℕ)) :
    X0_5 m c t y = m ((c : Thread nD τ).loc main_arg2) j := by
  unfold X0_5 Pipeline.Window.fill
  rw [dif_pos (moved0_5 t y)]
  blk_simp [iblk]
  rw [V_main_arg2]
  blk_ext [idx t]

theorem row_lt (t : Fin cfg0.N) (y : Fin 512) : t.val * 512 + (y : ℕ) < 8192 := by
  have := lt_of_lt_of_eq t.isLt N_0
  omega

theorem col_lt (y : Fin 1024) : 2048 + (y : ℕ) < 5376 := by omega
theorem col_lt' (y : Fin 1024) : 3072 + (y : ℕ) < 5376 := by omega

open Cert.ReferenceIdeal.Read in
theorem final8 (c : Dev nD) : (dats m 0 c).arrAt 8 cfg0.N = val_main_v46 (F := Ideal) (m ((c : Thread nD τ).loc main_arg2)) (m ((c : Thread nD τ).loc main_arg5)) (m ((c : Thread nD τ).loc main_arg6)) := by
  refine (dats m 0 c).arrAt_eq_of_covers 8 _ (by decide +kernel) fun t _ y => ?_
  blk_simp
  rw [after0_8]; unfold outsAt0; frame_out
  pointwise [k0_pay6, k0_pay3, k0_pay4, val_main_v46, val_main_v39, val_main_v16, val_main_v15, val_main_v14, val_main_v13, val_main_v12, val_main_v11, val_main_v10, val_main_v7, val_main_v2, val_main_cst, val_main_cst_0, val_main_v34, val_main_v5, val_main_v6]
  rw [mul_comm, X4 m c t y (ix2 ⟨t.val * 512 + (y 0 : ℕ), row_lt t (y 0)⟩ ⟨2048 + (y 1 : ℕ), col_lt (y 1)⟩) rfl rfl]
  unfold Ideal.logistic
  blk_point [iblk, V_main_arg6, V_main_arg5, idx t]

open Cert.ReferenceIdeal.Read in
theorem final9 (c : Dev nD) : (dats m 0 c).arrAt 9 cfg0.N = val_main_v47 (F := Ideal) (m ((c : Thread nD τ).loc main_arg2)) (m ((c : Thread nD τ).loc main_arg5)) (m ((c : Thread nD τ).loc main_arg6)) := by
  refine (dats m 0 c).arrAt_eq_of_covers 9 _ (by decide +kernel) fun t _ y => ?_
  blk_simp
  rw [after0_9]; unfold outsAt0; frame_out
  pointwise [k0_pay7, k0_pay3, k0_pay5, val_main_v47, val_main_v35, val_main_v27, val_main_v26, val_main_v25, val_main_v24, val_main_v23, val_main_v22, val_main_v21, val_main_v7, val_main_v2, val_main_cst_2, val_main_cst_3, val_main_v34, val_main_v5, val_main_v6]
  rw [mul_comm, X5 m c t y (ix2 ⟨t.val * 512 + (y 0 : ℕ), row_lt t (y 0)⟩ ⟨3072 + (y 1 : ℕ), col_lt' (y 1)⟩) rfl rfl]
  unfold Ideal.logistic
  blk_point [iblk, V_main_arg6, V_main_arg5, idx t]

open Cert.ReferenceIdeal.Read in
theorem final11 (c : Dev nD) : (dats m 0 c).arrAt 11 cfg0.N = val_main_v49 (F := Ideal) (m ((c : Thread nD τ).loc main_arg2)) (m ((c : Thread nD τ).loc main_arg3)) (m ((c : Thread nD τ).loc main_arg5)) (m ((c : Thread nD τ).loc main_arg6)) := by
  refine (dats m 0 c).arrAt_eq_of_covers 11 _ (by decide +kernel) fun t _ y => ?_
  blk_simp
  rw [after0_11]; unfold outsAt0; frame_out
  pointwise [k0_pay1, k0_pay6, k0_pay3, k0_pay4, val_main_v49, val_main_v44, val_main_v3, val_main_v39, val_main_v16, val_main_v15, val_main_v14, val_main_v13, val_main_v12, val_main_v11, val_main_v10, val_main_v7, val_main_v2, val_main_cst, val_main_cst_0, val_main_v34, val_main_v5, val_main_v6]
  refine Fin.sum_fin_congr fun x => ?_
  rw [mul_comm (∑ k, _), X4 m c t (ix2 (y 0) x) (ix2 ⟨t.val * 512 + (y 0 : ℕ), row_lt t (y 0)⟩ ⟨2048 + (x : ℕ), col_lt x⟩) rfl rfl]
  unfold Ideal.logistic
  blk_point [iblk, V_main_arg6, V_main_arg5, V_main_arg3, idx t]

open Cert.ReferenceIdeal.Read in
theorem final12 (c : Dev nD) : (dats m 0 c).arrAt 12 cfg0.N = val_main_v50 (F := Ideal) (m ((c : Thread nD τ).loc main_arg2)) (m ((c : Thread nD τ).loc main_arg4)) (m ((c : Thread nD τ).loc main_arg5)) (m ((c : Thread nD τ).loc main_arg6)) := by
  refine (dats m 0 c).arrAt_eq_of_covers 12 _ (by decide +kernel) fun t _ y => ?_
  blk_simp
  rw [after0_12]; unfold outsAt0; frame_out
  pointwise [k0_pay2, k0_pay7, k0_pay3, k0_pay5, val_main_v50, val_main_v45, val_main_v4, val_main_v35, val_main_v27, val_main_v26, val_main_v25, val_main_v24, val_main_v23, val_main_v22, val_main_v21, val_main_v7, val_main_v2, val_main_cst_2, val_main_cst_3, val_main_v34, val_main_v5, val_main_v6]
  refine Fin.sum_fin_congr fun x => ?_
  rw [mul_comm (∑ k, _), X5 m c t (ix2 (y 0) x) (ix2 ⟨t.val * 512 + (y 0 : ℕ), row_lt t (y 0)⟩ ⟨3072 + (x : ℕ), col_lt' x⟩) rfl rfl]
  unfold Ideal.logistic
  blk_point [iblk, V_main_arg6, V_main_arg5, V_main_arg4, idx t]

end Cert.MergeBwd
end
-- ==== Proof.MergeGate.lean ====
module

public import proofs.«01_k».proof.Proof.MergeBwd
public import proofs.«01_k».proof.Proof.Gen.KernelIdeal.Value
public import proofs.«01_k».proof.Proof.Gen.ReferenceIdeal.Read
public import proofs.«01_k».proof.Proof.Gen.ReferenceIdeal.Run
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.MergeBwd

open Cert.KernelIdeal Cert.KernelIdeal.Gen

variable (m : (ℓ : Loc nD τ sig) → Buf (Elt Ideal) ℓ)

/-- one entry of a branch's output product -/
def branch (a : FVec Ideal S8192x1024 .bf16) (w : FVec Ideal S1024x1024 .bf16) (r : Fin 8192) (k : Fin 1024) : EReal :=
  ∑ l : Fin 1024, a (ix2 r l) * w (ix2 l k)

/-- the convolution branch's output rows, which the host forms before the call -/
theorem conv6 (c : Dev nD) (t : Fin cfg0.N) (x : S512x1024.Idx) (r : Fin 8192) (hr : (r : ℕ) = t.val * 512 + (x 0 : ℕ)) :
    iblk m c 6 t x = branch (m ((c : Thread nD τ).loc main_arg0)) (m ((c : Thread nD τ).loc main_arg3)) r (x 1) := by
  unfold branch
  blk_simp [iblk]
  entry_read
  pointwise
  blk_point [idx t]

/-- and the attention branch's -/
theorem attn7 (c : Dev nD) (t : Fin cfg0.N) (x : S512x1024.Idx) (r : Fin 8192) (hr : (r : ℕ) = t.val * 512 + (x 0 : ℕ)) :
    iblk m c 7 t x = branch (m ((c : Thread nD τ).loc main_arg1)) (m ((c : Thread nD τ).loc main_arg4)) r (x 1) := by
  unfold branch
  blk_simp [iblk]
  entry_read
  pointwise
  blk_point [idx t]

open Cert.ReferenceIdeal.Read in
theorem core10a (c : Dev nD) (t : Fin cfg0.N) (x : S512x1024.Idx) (j : S8192x2048.Idx)
    (h0 : (j 0 : ℕ) = t.val * 512 + (x 0 : ℕ)) (h1 : (j 1 : ℕ) = 1024 + (x 1 : ℕ)) :
    k0_pay9 (F := Ideal) (iblk m c 0 t) (iblk m c 1 t) (X0_5 m c t) (iblk m c 7 t) x = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) j := by
  pointwise [k0_pay9, k0_pay3, k0_pay5, val_main_v48, val_main_v43, val_main_v38, val_main_v42, val_main_v41, val_main_v40, val_main_v37, val_main_v36, val_main_v30, val_main_v29, val_main_v28, val_main_v19, val_main_v18, val_main_v17, val_main_v8, val_main_v9, val_main_v0, val_main_v1, val_main_v3, val_main_v4, val_main_cst_1, val_main_cst_4, val_main_cst_5, val_main_cst_6, val_main_v16, val_main_v15, val_main_v14, val_main_v13, val_main_v12, val_main_v11, val_main_v10, val_main_v7, val_main_v2, val_main_cst, val_main_cst_0, val_main_v27, val_main_v26, val_main_v25, val_main_v24, val_main_v23, val_main_v22, val_main_v21, val_main_v7, val_main_v2, val_main_cst_2, val_main_cst_3, val_main_v34, val_main_v5, val_main_v6]
  have hx := (x 1).isLt
  simp at hx
  rw [dif_pos ⟨by omega, by omega⟩, dif_neg (by omega), add_zero,
    X5 m c t x (ix2 (j 0) ⟨3072 + (x 1 : ℕ), col_lt' (x 1)⟩) h0 rfl, attn7 m c t x (j 0) h0]
  unfold Ideal.logistic branch
  blk_point [iblk, V_main_arg6, V_main_arg5, idx t]

open Cert.ReferenceIdeal.Read in
theorem core10b (c : Dev nD) (t : Fin cfg0.N) (x : S512x1024.Idx) (j : S8192x2048.Idx)
    (h0 : (j 0 : ℕ) = t.val * 512 + (x 0 : ℕ)) (h1 : (j 1 : ℕ) = (x 1 : ℕ)) :
    k0_pay8 (F := Ideal) (iblk m c 0 t) (iblk m c 1 t) (X0_4 m c t) (iblk m c 6 t) x = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) j := by
  pointwise [k0_pay8, k0_pay3, k0_pay4, val_main_v48, val_main_v43, val_main_v38, val_main_v42, val_main_v41, val_main_v40, val_main_v37, val_main_v36, val_main_v30, val_main_v29, val_main_v28, val_main_v19, val_main_v18, val_main_v17, val_main_v8, val_main_v9, val_main_v0, val_main_v1, val_main_v3, val_main_v4, val_main_cst_1, val_main_cst_4, val_main_cst_5, val_main_cst_6, val_main_v16, val_main_v15, val_main_v14, val_main_v13, val_main_v12, val_main_v11, val_main_v10, val_main_v7, val_main_v2, val_main_cst, val_main_cst_0, val_main_v27, val_main_v26, val_main_v25, val_main_v24, val_main_v23, val_main_v22, val_main_v21, val_main_v7, val_main_v2, val_main_cst_2, val_main_cst_3, val_main_v34, val_main_v5, val_main_v6]
  have hx := (x 1).isLt
  simp at hx
  rw [dif_neg (by omega), dif_pos (by omega), zero_add,
    X4 m c t x (ix2 (j 0) ⟨2048 + (x 1 : ℕ), col_lt (x 1)⟩) h0 rfl, conv6 m c t x (j 0) h0]
  unfold Ideal.logistic branch
  blk_point [iblk, V_main_arg6, V_main_arg5, idx t]

open Cert.ReferenceIdeal.Read in
theorem final10 (c : Dev nD) : (dats m 0 c).arrAt 10 cfg0.N
    = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t _ y => ?_
  blk_simp
  rw [after0_10]; unfold outsAt0; frame_out
  canon_tiles x h
  · refine core10a m c t x _ ?_ ?_ <;> blk_simp [idx t] <;> omega
  · refine core10b m c t x _ ?_ ?_ <;> blk_simp [idx t] <;> omega

open Cert.ReferenceIdeal.Read in
theorem algebraic : Cert.algebraic_KernelIdeal_ReferenceIdeal := by
  intro m g m' g' _ hagree
  refine ⟨fun c => val_main_v46 (F := Ideal) (m ((c : Thread nD τ).loc main_arg2)) (m ((c : Thread nD τ).loc main_arg5)) (m ((c : Thread nD τ).loc main_arg6)),
    fun c => val_main_v47 (F := Ideal) (m ((c : Thread nD τ).loc main_arg2)) (m ((c : Thread nD τ).loc main_arg5)) (m ((c : Thread nD τ).loc main_arg6)),
    fun c => val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
    fun c => val_main_v49 (F := Ideal) (m ((c : Thread nD τ).loc main_arg2)) (m ((c : Thread nD τ).loc main_arg3)) (m ((c : Thread nD τ).loc main_arg5)) (m ((c : Thread nD τ).loc main_arg6)),
    fun c => val_main_v50 (F := Ideal) (m ((c : Thread nD τ).loc main_arg2)) (m ((c : Thread nD τ).loc main_arg4)) (m ((c : Thread nD τ).loc main_arg5)) (m ((c : Thread nD τ).loc main_arg6)), ?_, ?_⟩
  · refine (θ_run _ _ _).mono (fun r h c => ?_) (Cert.KernelIdeal.Value.run_blocks m g)
    obtain ⟨h8, h9, h10, h11, h12, hrest⟩ := h c
    exact ⟨h8.trans (final8 m c), h9.trans (final9 m c), h10.trans (final10 m c), h11.trans (final11 m c), h12.trans (final12 m c), hrest⟩
  · refine (θ_run _ _ _).mono (fun r h c => ?_) (Cert.ReferenceIdeal.Value.run m' g')
    obtain ⟨h8, h9, h10, h11, h12, hrest⟩ := h c
    obtain ⟨a0, a1, a2, a3, a4, a5, a6⟩ := hagree c
    refine ⟨h8.trans ((val_main_v46_eq _ _ _).trans ?_), h9.trans ((val_main_v47_eq _ _ _).trans ?_), h10.trans ((val_main_v48_eq _ _ _ _ _ _ _).trans ?_), h11.trans ((val_main_v49_eq _ _ _ _).trans ?_), h12.trans ((val_main_v50_eq _ _ _ _).trans ?_), hrest⟩
    · rw [a2, a5, a6]
    · rw [a2, a5, a6]
    · rw [a0, a1, a2, a3, a4, a5, a6]
    · rw [a2, a3, a5, a6]
    · rw [a2, a4, a5, a6]

end Cert.MergeBwd
end
-- ==== Proof.RmsGrad.lean ====
module

public import Idealize.ShloMosaic.Lib.Pipeline.ValueKit
public import Idealize.ShloMosaic.Lib.Claim

@[expose] public section

noncomputable section

open Idealize.ShloMosaic

namespace Cert.RmsGrad

/-- the mean of squares with its small positive constant is never below that constant -/
theorem var_cases {s : EReal} (hs : 0 ≤ s) {n e : ℝ} (hn : 0 < n) (he : 0 < e) :
    (∃ v : ℝ, 0 < v ∧ Ideal.div s (n : EReal) + (e : EReal) = (v : EReal)) ∨ Ideal.div s (n : EReal) + (e : EReal) = ⊤ := by
  have hn' : (n : EReal) ≠ 0 := by exact_mod_cast hn.ne'
  unfold Ideal.div
  rw [if_neg hn']
  induction s with
  | bot => exact absurd hs (by simp)
  | top =>
    right
    rw [← EReal.coe_inv, EReal.top_mul_coe_of_pos (by positivity)]
    rfl
  | coe s =>
    left
    have h0 : 0 ≤ s := by exact_mod_cast hs
    refine ⟨s * n⁻¹ + e, by positivity, ?_⟩
    push_cast
    rfl

theorem half_add_half (y : EReal) : ((-(1 / 2) : ℝ) : EReal) * y + ((-(1 / 2) : ℝ) : EReal) * y = -y := by
  induction y with
  | bot => rw [EReal.coe_mul_bot_of_neg (by norm_num)]; rfl
  | top => rw [EReal.coe_mul_top_of_neg (by norm_num)]; rfl
  | coe y => norm_cast; congr 1; ring

/-- a row's gradient through the mean: what the kernel takes away once, the transposed derivative adds as two halves -/
theorem row {s dh t x S : EReal} (hs : 0 ≤ s) {n e : ℝ} (hn : 0 < n) (he : 0 < e) :
    dh + (Ideal.rsqrt (Ideal.div s (n : EReal) + (e : EReal)) * t
        - x * (Ideal.rsqrt (Ideal.div s (n : EReal) + (e : EReal)) * Ideal.rsqrt (Ideal.div s (n : EReal) + (e : EReal))
          * Ideal.rsqrt (Ideal.div s (n : EReal) + (e : EReal)) * Ideal.div S (n : EReal)))
      = dh + t * Ideal.rsqrt (Ideal.div s (n : EReal) + (e : EReal))
        + x * Ideal.div (S * (((-(1 / 2) : ℝ) : EReal) * Ideal.div (Ideal.rsqrt (Ideal.div s (n : EReal) + (e : EReal))) (Ideal.div s (n : EReal) + (e : EReal)))) (n : EReal)
        + Ideal.div (S * (((-(1 / 2) : ℝ) : EReal) * Ideal.div (Ideal.rsqrt (Ideal.div s (n : EReal) + (e : EReal))) (Ideal.div s (n : EReal) + (e : EReal)))) (n : EReal) * x := by
  have hn' : (n : EReal) ≠ 0 := by exact_mod_cast hn.ne'
  rcases var_cases hs hn he with ⟨v, hv, h⟩ | h
  · rw [h, Ideal.rsqrt_coe, if_neg (not_lt.mpr hv.le), if_neg hv.ne']
    have hv' : (v : EReal) ≠ 0 := by exact_mod_cast hv.ne'
    unfold Ideal.div
    rw [if_neg hn', if_neg hv', if_neg hn', ← EReal.coe_inv, ← EReal.coe_inv]
    have hr : (√v)⁻¹ * v⁻¹ = (√v)⁻¹ * (√v)⁻¹ * (√v)⁻¹ := by
      have : v⁻¹ = (√v)⁻¹ * (√v)⁻¹ := by rw [← mul_inv, Real.mul_self_sqrt hv.le]
      rw [this, mul_assoc]
    rw [← EReal.coe_mul (√v)⁻¹ v⁻¹, hr]
    generalize (√v)⁻¹ = r
    simp only [← EReal.coe_mul]
    have e1 : S * ((-(1 / 2) * (r * r * r) : ℝ) : EReal) * ((n⁻¹ : ℝ) : EReal)
        = ((-(1 / 2) : ℝ) : EReal) * (((r * r * r : ℝ) : EReal) * (S * ((n⁻¹ : ℝ) : EReal))) := by
      push_cast
      ac_rfl
    rw [e1]
    generalize (((r * r * r : ℝ) : EReal) * (S * ((n⁻¹ : ℝ) : EReal))) = q
    have e2 : x * (((-(1 / 2) : ℝ) : EReal) * q) = ((-(1 / 2) : ℝ) : EReal) * (x * q) := by ac_rfl
    rw [mul_comm (_ * q) x, e2, add_assoc, half_add_half, mul_comm (r : EReal) t, sub_eq_add_neg, add_assoc]
  · rw [h, Ideal.rsqrt_top]
    unfold Ideal.div
    rw [if_neg EReal.top_ne_zero, if_neg hn', if_neg hn']
    simp

/-- the literals of the step: the row's length, the small constant, one half -/
theorem lit_n : Ideal.ofBits .f32 0x44800000#32 = ((1024 : ℝ) : EReal) := by
  norm_num [Ideal.ofBits, Ideal.ieee, BitVec.extractLsb', Nat.shiftRight_eq_div_pow]

theorem lit_e : ∃ e : ℝ, 0 < e ∧ Ideal.ofBits .f32 0x358637BD#32 = (e : EReal) :=
  ⟨8796093 * 2 ^ (-43 : ℤ), by positivity, by
    norm_num [Ideal.ofBits, Ideal.ieee, BitVec.extractLsb', Nat.shiftRight_eq_div_pow]⟩

theorem lit_h : Ideal.ofBits .f32 0xBF000000#32 = ((-(1 / 2) : ℝ) : EReal) := by
  norm_num [Ideal.ofBits, Ideal.ieee, BitVec.extractLsb', Nat.shiftRight_eq_div_pow]

/-- the row identity at the literals -/
theorem row_lit {s dh t x S S' : EReal} (hs : 0 ≤ s) (hS : S = S') :
    dh + (Ideal.rsqrt (Ideal.div s (Ideal.ofBits .f32 0x44800000#32) + Ideal.ofBits .f32 0x358637BD#32) * t
        - x * (Ideal.rsqrt (Ideal.div s (Ideal.ofBits .f32 0x44800000#32) + Ideal.ofBits .f32 0x358637BD#32)
            * Ideal.rsqrt (Ideal.div s (Ideal.ofBits .f32 0x44800000#32) + Ideal.ofBits .f32 0x358637BD#32)
          * Ideal.rsqrt (Ideal.div s (Ideal.ofBits .f32 0x44800000#32) + Ideal.ofBits .f32 0x358637BD#32)
            * Ideal.div S (Ideal.ofBits .f32 0x44800000#32)))
      = dh + t * Ideal.rsqrt (Ideal.div s (Ideal.ofBits .f32 0x44800000#32) + Ideal.ofBits .f32 0x358637BD#32)
        + x * Ideal.div (S' * (Ideal.ofBits .f32 0xBF000000#32
            * Ideal.div (Ideal.rsqrt (Ideal.div s (Ideal.ofBits .f32 0x44800000#32) + Ideal.ofBits .f32 0x358637BD#32))
              (Ideal.div s (Ideal.ofBits .f32 0x44800000#32) + Ideal.ofBits .f32 0x358637BD#32))) (Ideal.ofBits .f32 0x44800000#32)
        + Ideal.div (S' * (Ideal.ofBits .f32 0xBF000000#32
            * Ideal.div (Ideal.rsqrt (Ideal.div s (Ideal.ofBits .f32 0x44800000#32) + Ideal.ofBits .f32 0x358637BD#32))
              (Ideal.div s (Ideal.ofBits .f32 0x44800000#32) + Ideal.ofBits .f32 0x358637BD#32))) (Ideal.ofBits .f32 0x44800000#32) * x := by
  subst hS
  obtain ⟨e, he, h⟩ := lit_e
  rw [h, lit_n, lit_h]
  exact row hs (by norm_num) he

theorem sum_sq_nonneg {n : ℕ} (f : Fin n → EReal) : 0 ≤ ∑ k, f k * f k :=
  Finset.sum_nonneg fun k _ => by
    rcases le_total 0 (f k) with h | h
    · exact EReal.mul_nonneg h h
    · rw [← neg_mul_neg]; exact EReal.mul_nonneg (EReal.neg_nonneg.mpr h) (EReal.neg_nonneg.mpr h)

end Cert.RmsGrad
end
-- ==== Proof.InprojBwd.lean ====
module

public import proofs.«01_k».proof.Proof.Gen.Kernel2Ideal.Value
public import proofs.«01_k».proof.Proof.Gen.Reference2Ideal.Read
public import proofs.«01_k».proof.Proof.Gen.Reference2Ideal.Run
public import proofs.«01_k».proof.Proof.RmsGrad
public import proofs.«01_k».proof.Defs

@[expose] public section

set_option maxRecDepth 16384

noncomputable section

open Idealize.ShloMosaic Idealize.ShloMosaic.TcCoe Idealize.SL.Sem
open Idealize.ShloMosaic.Pipeline (Dat)

namespace Cert.InprojBwd

open Cert.Kernel2Ideal Cert.Kernel2Ideal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![0, 0]
    ∧ win0_7.index t = ![t.val, 0] ∧ win0_8.index t = ![t.val, 0] ∧ win0_9.index t = ![0, 0] :=
  (by decide +kernel : ∀ t : Fin grid0.N, _)

theorem row_lt (t : Fin cfg0.N) (y : Fin 512) : t.val * 512 + (y : ℕ) < 8192 := by
  have := lt_of_lt_of_eq t.isLt N_0
  omega

/-- a sum over the joined columns is the four sums over the parts, in the kernel's order -/
theorem sum_parts (f : Fin 5376 → EReal) :
    (∑ k : Fin 2048, f ⟨k, by omega⟩) + (∑ k : Fin 2048, f ⟨3328 + k, by omega⟩) + (∑ k : Fin 1024, f ⟨2048 + k, by omega⟩)
      + (∑ k : Fin 256, f ⟨3072 + k, by omega⟩) = ∑ k, f k := by
  have e : ∑ k, f k = (∑ k : Fin 2048, f ⟨k, by omega⟩) + (∑ k : Fin 1024, f ⟨2048 + k, by omega⟩)
      + (∑ k : Fin 256, f ⟨3072 + k, by omega⟩) + (∑ k : Fin 2048, f ⟨3328 + k, by omega⟩) := by
    refine (Fin.sum_univ_add (a := 3328) (b := 2048) f).trans (congrArg₂ _ ?_ rfl)
    refine (Fin.sum_univ_add (a := 3072) (b := 256) _).trans (congrArg₂ _ ?_ rfl)
    exact Fin.sum_univ_add (a := 2048) (b := 1024) _
  rw [e, add_right_comm _ (∑ k : Fin 2048, f ⟨3328 + k, _⟩), add_right_comm _ (∑ k : Fin 2048, f ⟨3328 + k, _⟩)]

open Cert.Reference2Ideal.Read in
/-- the row's gradient before the norm, tile by tile: four products against four parts of the weight -/
theorem dxn (c : Dev nD) (t : Fin cfg0.N) (p : Fin 512) (q : Fin 1024) :
    k0_pay4 (F := Ideal) (iblk m c 0 t) (View.ld (iblk m c 4 t) (Rect.unit ![0, 0] ![2048, 1024] inb_S5376x1024_S2048x1024_0_0))
      (iblk m c 1 t) (View.ld (iblk m c 4 t) (Rect.unit ![3328, 0] ![2048, 1024] inb_S5376x1024_S2048x1024_3328_0))
      (iblk m c 2 t) (View.ld (iblk m c 4 t) (Rect.unit ![2048, 0] ![1024, 1024] inb_S5376x1024_S1024x1024_2048_0))
      (iblk m c 3 t) (View.ld (iblk m c 4 t) (Rect.unit ![3072, 0] ![256, 1024] inb_S5376x1024_S256x1024_3072_0)) (ix2 p q)
      = val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 512 + (p : ℕ), row_lt t p⟩ q) := by
  pointwise [k0_pay4, val_main_v23, val_main_v21, val_main_v5, val_main_v0, val_main_v1, val_main_v2, val_main_v3, val_main_v4]
  rw [← sum_parts]
  refine congrArg₂ _ (congrArg₂ _ (congrArg₂ _ ?_ ?_) ?_) ?_ <;> refine Finset.sum_congr rfl fun k _ => ?_
  · rw [dif_pos k.isLt]
    blk_point [iblk, V_main_arg0, V_main_arg4, idx t]
  · rw [dif_neg (by dsimp only; omega), dif_neg (by dsimp only; omega), dif_neg (by dsimp only; omega)]
    blk_point [iblk, V_main_arg1, V_main_arg4, idx t]
  · rw [dif_neg (by dsimp only; omega), dif_pos (by dsimp only; omega)]
    blk_point [iblk, V_main_arg2, V_main_arg4, idx t]
  · rw [dif_neg (by dsimp only; omega), dif_neg (by dsimp only; omega), dif_pos (by dsimp only; omega)]
    blk_point [iblk, V_main_arg3, V_main_arg4, idx t]

theorem at8 (t : Fin cfg0.N) (y : S512x1024.Idx) :
    ((View.whole main_v0_0).slice (win0_8.rect t)).emb y = ix2 ⟨t.val * 512 + (y 0 : ℕ), row_lt t (y 0)⟩ (y 1) := by
  blk_ext [idx t]

theorem x_at (c : Dev nD) (t : Fin cfg0.N) (p : Fin 512) (q : Fin 1024) :
    iblk m c 5 t (ix2 p q) = m ((c : Thread nD τ).loc main_arg5) (ix2 ⟨t.val * 512 + (p : ℕ), row_lt t p⟩ q) := by
  blk_ext [iblk, V_main_arg5, idx t]

theorem g_at (c : Dev nD) (t : Fin cfg0.N) (p : Fin 1) (q : Fin 1024) :
    iblk m c 6 t (ix2 p q) = m ((c : Thread nD τ).loc main_arg6) (ix2 p q) := by
  blk_ext [iblk, V_main_arg6, idx t]

theorem d_at (c : Dev nD) (t : Fin cfg0.N) (p : Fin 512) (q : Fin 1024) :
    iblk m c 7 t (ix2 p q) = m ((c : Thread nD τ).loc main_arg7) (ix2 ⟨t.val * 512 + (p : ℕ), row_lt t p⟩ q) := by
  blk_ext [iblk, V_main_arg7, idx t]

open Cert.Reference2Ideal.Read in
/-- one entry of the gradient of the stream, as a point stores it -/
theorem core8 (c : Dev nD) (t : Fin cfg0.N) (p : Fin 512) (q : Fin 1024) :
    k0_pay1 (F := Ideal) (iblk m c 5 t) (k0_pay7 (iblk m c 0 t) (View.ld (iblk m c 4 t) (Rect.unit ![0, 0] ![2048, 1024] inb_S5376x1024_S2048x1024_0_0)) (iblk m c 1 t) (View.ld (iblk m c 4 t) (Rect.unit ![3328, 0] ![2048, 1024] inb_S5376x1024_S2048x1024_3328_0)) (iblk m c 2 t) (View.ld (iblk m c 4 t) (Rect.unit ![2048, 0] ![1024, 1024] inb_S5376x1024_S1024x1024_2048_0)) (iblk m c 3 t) (View.ld (iblk m c 4 t) (Rect.unit ![3072, 0] ![256, 1024] inb_S5376x1024_S256x1024_3072_0)) (iblk m c 5 t) (iblk m c 6 t)) (k0_pay8 (iblk m c 5 t))
        (k0_pay9 (iblk m c 0 t) (View.ld (iblk m c 4 t) (Rect.unit ![0, 0] ![2048, 1024] inb_S5376x1024_S2048x1024_0_0)) (iblk m c 1 t) (View.ld (iblk m c 4 t) (Rect.unit ![3328, 0] ![2048, 1024] inb_S5376x1024_S2048x1024_3328_0)) (iblk m c 2 t) (View.ld (iblk m c 4 t) (Rect.unit ![2048, 0] ![1024, 1024] inb_S5376x1024_S1024x1024_2048_0)) (iblk m c 3 t) (View.ld (iblk m c 4 t) (Rect.unit ![3072, 0] ![256, 1024] inb_S5376x1024_S256x1024_3072_0)) (iblk m c 5 t) (iblk m c 6 t)) (iblk m c 7 t) (ix2 p q)
      = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨t.val * 512 + (p : ℕ), row_lt t p⟩ q) := by
  pointwise [k0_pay1, k0_pay7, k0_pay8, k0_pay9, k0_pay6, k0_pay5, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v16, val_main_v15, val_main_v14, val_main_v13, val_main_v12, val_main_v11, val_main_v10, val_main_v9, val_main_v8, val_main_v7, val_main_v6, val_main_cst, val_main_cst_0, val_main_cst_1, val_main_cst_2, val_main_cst_4, val_main_cst_5, val_main_cst_6]
  simp only [dxn, x_at, g_at, d_at, Finset.univ_unique, Finset.sum_singleton]
  refine RmsGrad.row_lit (RmsGrad.sum_sq_nonneg _) ?_
  exact Finset.sum_congr rfl fun k _ => mul_comm (G := EReal) _ _

open Cert.Reference2Ideal.Read in
theorem final8 (c : Dev nD) : (dats m 0 c).arrAt 8 cfg0.N = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8, at8]
  by_cases h0 : t.val % 16 = 0
  · rw [outsAt0_A m c t h0]; frame_out
    idx_vars y
    exact core8 m c t y0 y1
  · rw [outsAt0_B m c t h0]; frame_out
    idx_vars y
    exact core8 m c t y0 y1

theorem hzero (j : S1x1024.Idx) : k0_pay2 (F := Ideal) j = 0 := by
  pointwise [k0_pay2]

theorem hpay (d x : Vec Ideal S512x1024 .f32) (r : Vec Ideal S512x1 .f32) (acc : Vec Ideal S1x1024 .f32) (j : S1x1024.Idx) :
    k0_pay3 (F := Ideal) d x r acc j = acc j + ∑ k : Fin 512, d (ix2 k (j 1)) * x (ix2 k (j 1)) * r (ix2 k 0) := by
  pointwise [k0_pay3]

theorem hr (x : Vec Ideal S512x1024 .f32) (p : Fin 512) (q : Fin 1) :
    k0_pay5 (F := Ideal) x (ix2 p q) = Ideal.rsqrt (Ideal.div (∑ k : Fin 1024, x (ix2 p k) * x (ix2 p k)) (Ideal.ofBits .f32 0x44800000#32) + Ideal.ofBits .f32 0x358637BD#32) := by
  pointwise [k0_pay5]

open Cert.Reference2Ideal.Read in
theorem final9 (c : Dev nD) : (dats m 0 c).arrAt 9 cfg0.N = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 9 t0_15 (by decide +kernel) _ fun j => ?_
  blk_simp
  rw [after0_9, Pipeline.eq_sum_fin_of_reset_step_apply_last (fun n h => (outsAt0 m c n h).2) 16 (fun _ => 0) _
    (fun t h j => by rw [outsAt0_A m c t h]; frame_out; rw [hpay, hzero])
    (fun t h j => by rw [outsAt0_B m c t h]; frame_out; rw [hpay]) (le_of_eq N_0) t0_15 rfl j, zero_add]
  idx_vars j
  pointwise [val_main_v26, val_main_v25, val_main_v24, val_main_v18, val_main_v17, val_main_v13, val_main_v12, val_main_v11, val_main_v10, val_main_v9, val_main_v8, val_main_v7, val_main_v6, val_main_cst, val_main_cst_0, val_main_cst_1, val_main_cst_3]
  refine Fin.sum_mul_add_congr fun t k hl => ?_
  simp only [hr, dxn, x_at]
  refine (mul_assoc (G := EReal) _ _ _).trans ((mul_comm (G := EReal) _ _).trans
    (congrArg₂ (HMul.hMul (α := EReal) (β := EReal) (γ := EReal)) ?_ (dxn m c t k j1)))
  rfl

open Cert.Reference2Ideal.Read in
/-- the program's results are the reference's -/
theorem algebraic : Cert.algebraic_Kernel2Ideal_Reference2Ideal := by
  intro m g m' g' _ hagree
  refine ⟨fun c => val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)),
    fun c => val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), ?_, ?_⟩
  · refine (θ_run _ _ _).mono (fun r h c => ?_) (Cert.Kernel2Ideal.Value.run_blocks m g)
    obtain ⟨h8, h9, hrest⟩ := h c
    exact ⟨h8.trans (final8 m c), h9.trans (final9 m c), hrest⟩
  · refine (θ_run _ _ _).mono (fun r h c => ?_) (Cert.Reference2Ideal.Value.run m' g')
    obtain ⟨h8, h9, hrest⟩ := h c
    obtain ⟨a0, a1, a2, a3, a4, a5, a6, a7⟩ := hagree c
    refine ⟨h8.trans ((val_main_v43_eq m' c).trans ?_), h9.trans ((val_main_v26_eq _ _ _ _ _ _).trans ?_), hrest⟩
    · rw [a0, a1, a2, a3, a4, a5, a6, a7]
    · rw [a0, a1, a2, a3, a4, a5]

end Cert.InprojBwd
end
-- ==== Proof.FfnInBwd.lean ====
module

public import proofs.«01_k».proof.Proof.Gen.Kernel3Ideal.Value
public import proofs.«01_k».proof.Proof.Gen.Reference3Ideal.Read
public import proofs.«01_k».proof.Proof.Gen.Reference3Ideal.Run
public import proofs.«01_k».proof.Proof.RmsGrad
public import proofs.«01_k».proof.Defs

@[expose] public section

set_option maxRecDepth 16384

noncomputable section

open Idealize.ShloMosaic Idealize.ShloMosaic.TcCoe Idealize.SL.Sem
open Idealize.ShloMosaic.Pipeline (Dat)

namespace Cert.FfnInBwd

open Cert.Kernel3Ideal Cert.Kernel3Ideal.Gen

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![0, 0] :=
  (by decide +kernel : ∀ t : Fin grid0.N, _)

theorem row_lt (t : Fin cfg0.N) (y : Fin 512) : t.val * 512 + (y : ℕ) < 8192 := by
  have := lt_of_lt_of_eq t.isLt N_0
  omega

theorem h_at (c : Dev nD) (t : Fin cfg0.N) (p : Fin 512) (q : Fin 1024) :
    iblk m c 2 t (ix2 p q) = m ((c : Thread nD τ).loc main_arg2) (ix2 ⟨t.val * 512 + (p : ℕ), row_lt t p⟩ q) := by
  blk_ext [iblk, V_main_arg2, idx t]

theorem g_at (c : Dev nD) (t : Fin cfg0.N) (p : Fin 1) (q : Fin 1024) :
    iblk m c 3 t (ix2 p q) = m ((c : Thread nD τ).loc main_arg3) (ix2 p q) := by
  blk_ext [iblk, V_main_arg3, idx t]

theorem d_at (c : Dev nD) (t : Fin cfg0.N) (p : Fin 512) (q : Fin 1024) :
    iblk m c 4 t (ix2 p q) = m ((c : Thread nD τ).loc main_arg4) (ix2 ⟨t.val * 512 + (p : ℕ), row_lt t p⟩ q) := by
  blk_ext [iblk, V_main_arg4, idx t]

open Cert.Reference3Ideal.Read in
/-- the row's gradient before the norm: one tile of the product with the weight -/
theorem dxn (c : Dev nD) (t : Fin cfg0.N) (p : Fin 512) (q : Fin 1024) :
    k0_pay3 (F := Ideal) (iblk m c 0 t) (iblk m c 1 t) (ix2 p q)
      = val_main_v19 (F := Ideal) (m ((c : Thread nD τ).loc main_arg0)) (m ((c : Thread nD τ).loc main_arg1)) (ix2 ⟨t.val * 512 + (p : ℕ), row_lt t p⟩ q) := by
  pointwise [k0_pay3, val_main_v19, val_main_v17, val_main_v1, val_main_v0]
  refine Finset.sum_congr rfl fun k _ => ?_
  blk_point [iblk, V_main_arg0, V_main_arg1, idx t]

theorem at5 (t : Fin cfg0.N) (y : S512x1024.Idx) :
    ((View.whole main_v0_0).slice (win0_5.rect t)).emb y = ix2 ⟨t.val * 512 + (y 0 : ℕ), row_lt t (y 0)⟩ (y 1) := by
  blk_ext [idx t]

theorem at6 (t : Fin cfg0.N) (y : S512x1024.Idx) :
    ((View.whole main_v0_1).slice (win0_6.rect t)).emb y = ix2 ⟨t.val * 512 + (y 0 : ℕ), row_lt t (y 0)⟩ (y 1) := by
  blk_ext [idx t]

open Cert.Reference3Ideal.Read in
/-- one entry of the gradient of the stream, as a point stores it -/
theorem core5 (c : Dev nD) (t : Fin cfg0.N) (p : Fin 512) (q : Fin 1024) :
    k0_pay6 (F := Ideal) (iblk m c 0 t) (iblk m c 1 t) (iblk m c 2 t) (iblk m c 3 t) (iblk m c 4 t) (ix2 p q)
      = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 ⟨t.val * 512 + (p : ℕ), row_lt t p⟩ q) := by
  pointwise [k0_pay6, k0_pay4, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v12, val_main_v11, val_main_v10, val_main_v9, val_main_v8, val_main_v7, val_main_v6, val_main_v5, val_main_v4, val_main_v3, val_main_v2, val_main_cst, val_main_cst_0, val_main_cst_1, val_main_cst_2, val_main_cst_4, val_main_cst_5, val_main_cst_6]
  simp only [dxn, h_at, g_at, d_at, Finset.univ_unique, Finset.sum_singleton]
  refine RmsGrad.row_lit (RmsGrad.sum_sq_nonneg _) ?_
  exact Finset.sum_congr rfl fun k _ => mul_comm (G := EReal) _ _

open Cert.Reference3Ideal.Read in
theorem final5 (c : Dev nD) : (dats m 0 c).arrAt 5 cfg0.N = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5, at5]
  by_cases h0 : t.val % 16 = 0
  · rw [outsAt0_A m c t h0]; frame_out
    idx_vars y
    exact core5 m c t y0 y1
  · rw [outsAt0_B m c t h0]; frame_out
    idx_vars y
    exact core5 m c t y0 y1

open Cert.Reference3Ideal.Read in
theorem final6 (c : Dev nD) : (dats m 0 c).arrAt 6 cfg0.N = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, at6]
  by_cases h0 : t.val % 16 = 0
  · rw [outsAt0_A m c t h0]; frame_out
    idx_vars y
    exact core5 m c t y0 y1
  · rw [outsAt0_B m c t h0]; frame_out
    idx_vars y
    exact core5 m c t y0 y1

theorem hzero (j : S1x1024.Idx) : k0_pay1 (F := Ideal) j = 0 := by
  pointwise [k0_pay1]

theorem hpay (x : Vec Ideal S512x1024 .f32) (acc : Vec Ideal S1x1024 .f32) (j : S1x1024.Idx) :
    k0_pay2 (F := Ideal) x acc j = acc j + ∑ k : Fin 512, x (ix2 k (j 1)) := by
  pointwise [k0_pay2]

open Cert.Reference3Ideal.Read in
theorem core7 (c : Dev nD) (t : Fin cfg0.N) (p : Fin 512) (q : Fin 1024) :
    k0_pay5 (F := Ideal) (iblk m c 0 t) (iblk m c 1 t) (iblk m c 2 t) (ix2 p q)
      = val_main_v20 (F := Ideal) (m ((c : Thread nD τ).loc main_arg0)) (m ((c : Thread nD τ).loc main_arg1)) (m ((c : Thread nD τ).loc main_arg2)) (ix2 ⟨t.val * 512 + (p : ℕ), row_lt t p⟩ q) := by
  pointwise [k0_pay5, k0_pay4, val_main_v20, val_main_v14, val_main_v13, val_main_v9, val_main_v8, val_main_v7, val_main_v6, val_main_v5, val_main_v4, val_main_v3, val_main_v2, val_main_cst, val_main_cst_0, val_main_cst_1]
  simp only [dxn, h_at]
  exact (mul_assoc (G := EReal) _ _ _).trans (mul_comm (G := EReal) _ _)

open Cert.Reference3Ideal.Read in
theorem final7 (c : Dev nD) : (dats m 0 c).arrAt 7 cfg0.N = val_main_v22 (F := Ideal) (m ((c : Thread nD τ).loc main_arg0)) (m ((c : Thread nD τ).loc main_arg1)) (m ((c : Thread nD τ).loc main_arg2)) := by
  refine (dats m 0 c).arrAt_eq_of_after_last 7 t0_15 (by decide +kernel) _ fun j => ?_
  blk_simp
  rw [after0_7, Pipeline.eq_sum_fin_of_reset_step_apply_last (fun n h => (outsAt0 m c n h).2.2) 16 (fun _ => 0) _
    (fun t h j => by rw [outsAt0_A m c t h]; frame_out; rw [hpay, hzero])
    (fun t h j => by rw [outsAt0_B m c t h]; frame_out; rw [hpay]) (le_of_eq N_0) t0_15 rfl j, zero_add]
  idx_vars j
  pointwise [val_main_v22, val_main_v21, val_main_cst_3]
  refine Fin.sum_mul_add_congr fun t k hl => ?_
  exact core7 m c t k j1

open Cert.Reference3Ideal.Read in
/-- the program's results are the reference's -/
theorem algebraic : Cert.algebraic_Kernel3Ideal_Reference3Ideal := by
  intro m g m' g' _ hagree
  refine ⟨fun c => val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c => val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)),
    fun c => val_main_v22 (F := Ideal) (m ((c : Thread nD τ).loc main_arg0)) (m ((c : Thread nD τ).loc main_arg1)) (m ((c : Thread nD τ).loc main_arg2)), ?_, ?_⟩
  · refine (θ_run _ _ _).mono (fun r h c => ?_) (Cert.Kernel3Ideal.Value.run_blocks m g)
    obtain ⟨h5, h6, h7, hrest⟩ := h c
    exact ⟨h5.trans (final5 m c), h6.trans (final6 m c), h7.trans (final7 m c), hrest⟩
  · refine (θ_run _ _ _).mono (fun r h c => ?_) (Cert.Reference3Ideal.Value.run m' g')
    obtain ⟨h5, h6, h7, hrest⟩ := h c
    obtain ⟨a0, a1, a2, a3, a4⟩ := hagree c
    refine ⟨h5.trans ((val_main_v39_eq m' c).trans ?_), h6.trans ((val_main_v40_eq m' c).trans ?_), h7.trans ((val_main_v22_eq _ _ _).trans ?_), hrest⟩
    · rw [a0, a1, a2, a3, a4]
    · rw [a0, a1, a2, a3, a4]
    · rw [a0, a1, a2]

end Cert.FfnInBwd
end
-- ==== Proof.FfnDownBwd.lean ====
module

public import proofs.«01_k».proof.Proof.Gen.Kernel4Ideal.Value
public import proofs.«01_k».proof.Proof.Gen.Reference4Ideal.Read
public import proofs.«01_k».proof.Proof.Gen.Reference4Ideal.Run
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.FfnDownBwd

open Cert.Kernel4Ideal Cert.Kernel4Ideal.Gen

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 1]
    ∧ win0_4.index t = ![t.val, 0] :=
  (by decide +kernel : ∀ t : Fin grid0.N, _)

open Cert.Reference4Ideal.Read in
/-- the gradient by `silu(gate) up` -/
theorem dact (c : Dev nD) (t : Fin cfg0.N) (p : Fin 512) (q : Fin 2816) (r : Fin 8192) (hr : (r : ℕ) = t.val * 512 + (p : ℕ)) :
    k0_pay1 (F := Ideal) (iblk m c 0 t) (iblk m c 1 t) (ix2 p q) = val_main_v9 (F := Ideal) (m ((c : Thread nD τ).loc main_arg0)) (m ((c : Thread nD τ).loc main_arg1)) (ix2 r q) := by
  pointwise [k0_pay1, val_main_v9, val_main_v8, val_main_v6]
  blk_point [iblk, V_main_arg0, V_main_arg1, idx t]

open Cert.Reference4Ideal.Read in
/-- what the host saves: the derivative by the gate and the one by `up`, side by side -/
def factors (gu : FVec Ideal S8192x5632 .f32) : FVec Ideal S8192x5632 .bf16 :=
  truncf .bf16 (concatenate S8192x5632 1 [⟨S8192x2816, mulf (val_main_v4 (F := Ideal) gu) (val_main_v1 (F := Ideal) gu)⟩, ⟨S8192x2816, val_main_v2_0 (F := Ideal) gu⟩]
    concatenates_S8192x2816_S8192x2816_S8192x5632_d1) bitsLt_bf16_f32

theorem saved (c : Dev nD) : V m c main_v7 = factors (m ((c : Thread nD τ).loc main_arg2)) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.toBuf, StableHlo.TRef.ofBuf, cast_eq]
  after_results_simp <;> rfl

open Cert.Reference4Ideal.Read in
theorem saved2 (c : Dev nD) (t : Fin cfg0.N) (p : Fin 512) (q : Fin 2816) (r : Fin 8192) (hr : (r : ℕ) = t.val * 512 + (p : ℕ)) :
    iblk m c 2 t (ix2 p q) = HMul.hMul (α := EReal) (β := EReal) (γ := EReal) (val_main_v4 (F := Ideal) (m ((c : Thread nD τ).loc main_arg2)) (ix2 r q)) (val_main_v1 (F := Ideal) (m ((c : Thread nD τ).loc main_arg2)) (ix2 r q)) := by
  have he : iblk m c 2 t (ix2 p q) = V m c main_v7 (ix2 r ⟨q, by omega⟩) := by
    blk_simp [iblk]
    refine congrArg (V m c main_v7) ?_
    blk_ext [idx t]
  rw [he, saved]
  pointwise [factors]

open Cert.Reference4Ideal.Read in
theorem saved3 (c : Dev nD) (t : Fin cfg0.N) (p : Fin 512) (q : Fin 2816) (r : Fin 8192) (hr : (r : ℕ) = t.val * 512 + (p : ℕ)) :
    iblk m c 3 t (ix2 p q) = val_main_v2_0 (F := Ideal) (m ((c : Thread nD τ).loc main_arg2)) (ix2 r q) := by
  have he : iblk m c 3 t (ix2 p q) = V m c main_v7 (ix2 r ⟨2816 + (q : ℕ), by omega⟩) := by
    blk_simp [iblk]
    refine congrArg (V m c main_v7) ?_
    blk_ext [idx t]
  rw [he, saved]
  pointwise [factors]

open Cert.Reference4Ideal.Read in
theorem core4a (c : Dev nD) (t : Fin cfg0.N) (x : S512x2816.Idx) (j : S8192x5632.Idx)
    (h0 : (j 0 : ℕ) = t.val * 512 + (x 0 : ℕ)) (h1 : (j 1 : ℕ) = (x 1 : ℕ)) :
    k0_pay2 (F := Ideal) (iblk m c 0 t) (iblk m c 1 t) (iblk m c 2 t) x = val_main_v14 (F := Ideal) (m ((c : Thread nD τ).loc main_arg0)) (m ((c : Thread nD τ).loc main_arg1)) (m ((c : Thread nD τ).loc main_arg2)) j := by
  idx_vars x
  pointwise [k0_pay2, val_main_v14, val_main_v13]
  rw [dif_pos (by simp at h1; omega)]
  pointwise [val_main_v12, val_main_v11]
  rw [dact m c t x0 x1 (j 0) h0, saved2 m c t x0 x1 (j 0) h0]
  have e : ∀ h, (⟨(j 1 : ℕ), h⟩ : Fin 2816) = x1 := fun h => Fin.ext h1
  rw [e]
  exact (congrArg (HMul.hMul (α := EReal) (β := EReal) (γ := EReal) _) (mul_comm (G := EReal) _ _)).trans (mul_assoc (G := EReal) _ _ _).symm

open Cert.Reference4Ideal.Read in
theorem core4b (c : Dev nD) (t : Fin cfg0.N) (x : S512x2816.Idx) (j : S8192x5632.Idx)
    (h0 : (j 0 : ℕ) = t.val * 512 + (x 0 : ℕ)) (h1 : (j 1 : ℕ) = 2816 + (x 1 : ℕ)) :
    k0_pay3 (F := Ideal) (iblk m c 0 t) (iblk m c 1 t) (iblk m c 3 t) x = val_main_v14 (F := Ideal) (m ((c : Thread nD τ).loc main_arg0)) (m ((c : Thread nD τ).loc main_arg1)) (m ((c : Thread nD τ).loc main_arg2)) j := by
  idx_vars x
  pointwise [k0_pay3, val_main_v14, val_main_v13]
  rw [dif_neg (by simp at h1; omega)]
  pointwise [val_main_v10]
  rw [dact m c t x0 x1 (j 0) h0, saved3 m c t x0 x1 (j 0) h0]
  have e : ∀ h, (⟨(j 1 : ℕ) - 2816, h⟩ : Fin 2816) = x1 := fun h => Fin.ext (Nat.sub_eq_of_eq_add' h1)
  rw [e]
  exact mul_comm (G := EReal) _ _

open Cert.Reference4Ideal.Read in
theorem final4 (c : Dev nD) : (dats m 0 c).arrAt 4 cfg0.N = val_main_v14 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; unfold out0_4; frame_out
  canon_tiles x h
  · refine core4b m c t x _ ?_ ?_ <;> blk_simp [idx t] <;> omega
  · refine core4a m c t x _ ?_ ?_ <;> blk_simp [idx t] <;> omega

open Cert.Reference4Ideal.Read in
/-- the program's results are the reference's -/
theorem algebraic : Cert.algebraic_Kernel4Ideal_Reference4Ideal := by
  intro m g m' g' _ hagree
  refine ⟨fun c => val_main_v14 (F := Ideal) (m ((c : Thread nD τ).loc main_arg0)) (m ((c : Thread nD τ).loc main_arg1)) (m ((c : Thread nD τ).loc main_arg2)), ?_, ?_⟩
  · refine (θ_run _ _ _).mono (fun r h c => ?_) (Cert.Kernel4Ideal.Value.run_blocks m g)
    obtain ⟨h4, hrest⟩ := h c
    exact ⟨h4.trans (final4 m c), hrest⟩
  · refine (θ_run _ _ _).mono (fun r h c => ?_) (Cert.Reference4Ideal.Value.run m' g')
    obtain ⟨h4, hrest⟩ := h c
    obtain ⟨a0, a1, a2⟩ := hagree c
    refine ⟨h4.trans ((val_main_v14_eq _ _ _).trans ?_), hrest⟩
    · rw [a0, a1, a2]

end Cert.FfnDownBwd
end
-- ==== Proof.DwFfnIn.lean ====
module

public import proofs.«01_k».proof.Proof.Gen.Kernel5Ideal.Value
public import proofs.«01_k».proof.Proof.Gen.Reference5Ideal.Read
public import proofs.«01_k».proof.Proof.Gen.Reference5Ideal.Run
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.DwFfnIn

open Cert.Kernel5Ideal Cert.Kernel5Ideal.Gen

variable (m : (ℓ : Loc nD τ sig) → Buf (Elt Ideal) ℓ)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem hzero (j : S1408x1024.Idx) : k0_pay1 (F := Ideal) j = 0 := by
  pointwise [k0_pay1]

theorem hpay (acc : Vec Ideal S1408x1024 .f32) (a : Vec Ideal S2048x1408 .bf16) (b : Vec Ideal S2048x1024 .bf16) (j : S1408x1024.Idx) :
    k0_pay2 (F := Ideal) acc a b j = acc j + ∑ k : Fin 2048, a (ix2 k (j 0)) * b (ix2 k (j 1)) := by
  pointwise [k0_pay2]

/-- one point of a run adds the product of its blocks to what the scratch carries -/
theorem carry (X : Vec Ideal S1408x1024 .f32) (a : Vec Ideal S2048x1408 .bf16) (b : Vec Ideal S2048x1024 .bf16) (j : S1408x1024.Idx) :
    k0_pay2 (F := Ideal) ((View.whole cc0_scratch0).read (Elt Ideal) ((Memref.isWhole_whole cc0_scratch0).unread X)) a b j
      = X j + ∑ k : Fin 2048, a (ix2 k (j 0)) * b (ix2 k (j 1)) := by
  rw [hpay]
  exact congrArg (fun z : EReal => z + _) (congrFun ((Memref.isWhole_whole cc0_scratch0).read_unread X) j)

/-- the last point of a run stores what the scratch then holds -/
theorem stored (c : Dev nD) (t : Fin cfg0.N) (h : t.val % 4 = 3) (j : S1408x1024.Idx) :
    (outsAt0 m c t.val t.isLt).1 j = (outsAt0 m c t.val t.isLt).2 j := by
  rw [outsAt0_C m c t (by omega) h]; frame_out
  pointwise [k0_pay3]

open Cert.Reference5Ideal.Read in
theorem final2 (c : Dev nD) : (dats m 0 c).arrAt 2 cfg0.N = val_main_v8 (F := Ideal) (m ((c : Thread nD τ).loc main_arg0)) (m ((c : Thread nD τ).loc main_arg1)) := by
  refine (dats m 0 c).arrAt_eq_of_covers 2 _ (by decide +kernel) fun t hf y => ?_
  have hl : t.val % 4 = 3 := (flush0_2 t).mp hf
  blk_simp
  rw [after0_2, stored m c t hl, Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      · rw [outsAt0_C m c t h h1]; frame_out; exact carry _ _ _ _
      · rw [outsAt0_B m c t h h1]; frame_out; exact carry _ _ _ _)
    t hl _, zero_add]
  pointwise [val_main_v8, val_main_v7, val_main_v6, val_main_v5, val_main_v1, val_main_v0]
  refine Fin.sum_mul_add_congr fun s k hl' => ?_
  blk_point [iblk, V_main_arg0, V_main_arg1, idx t, idx ⟨_, Pipeline.run_point_lt_of_flush t hl s⟩]

open Cert.Reference5Ideal.Read in
/-- the program's results are the reference's -/
theorem algebraic : Cert.algebraic_Kernel5Ideal_Reference5Ideal := by
  intro m g m' g' _ hagree
  refine ⟨fun c => val_main_v8 (F := Ideal) (m ((c : Thread nD τ).loc main_arg0)) (m ((c : Thread nD τ).loc main_arg1)), ?_, ?_⟩
  · refine (θ_run _ _ _).mono (fun r h c => ?_) (Cert.Kernel5Ideal.Value.run_blocks m g)
    obtain ⟨h2, hrest⟩ := h c
    exact ⟨h2.trans (final2 m c), hrest⟩
  · refine (θ_run _ _ _).mono (fun r h c => ?_) (Cert.Reference5Ideal.Value.run m' g')
    obtain ⟨h2, hrest⟩ := h c
    obtain ⟨a0, a1⟩ := hagree c
    refine ⟨h2.trans ((val_main_v8_eq _ _).trans ?_), hrest⟩
    · rw [a0, a1]

end Cert.DwFfnIn
end
-- ==== Proof.DwFfnDown.lean ====
module

public import proofs.«01_k».proof.Proof.Gen.Kernel6Ideal.Value
public import proofs.«01_k».proof.Proof.Gen.Reference6Ideal.Read
public import proofs.«01_k».proof.Proof.Gen.Reference6Ideal.Run
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.DwFfnDown

open Cert.Kernel6Ideal Cert.Kernel6Ideal.Gen

variable (m : (ℓ : Loc nD τ sig) → Buf (Elt Ideal) ℓ)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem hzero (j : S1408x1024.Idx) : k0_pay1 (F := Ideal) j = 0 := by
  pointwise [k0_pay1]

theorem hpay (acc : Vec Ideal S1408x1024 .f32) (a : Vec Ideal S2048x1408 .bf16) (b : Vec Ideal S2048x1024 .bf16) (j : S1408x1024.Idx) :
    k0_pay2 (F := Ideal) acc a b j = acc j + ∑ k : Fin 2048, a (ix2 k (j 0)) * b (ix2 k (j 1)) := by
  pointwise [k0_pay2]

/-- one point of a run adds the product of its blocks to what the scratch carries -/
theorem carry (X : Vec Ideal S1408x1024 .f32) (a : Vec Ideal S2048x1408 .bf16) (b : Vec Ideal S2048x1024 .bf16) (j : S1408x1024.Idx) :
    k0_pay2 (F := Ideal) ((View.whole cc0_scratch0).read (Elt Ideal) ((Memref.isWhole_whole cc0_scratch0).unread X)) a b j
      = X j + ∑ k : Fin 2048, a (ix2 k (j 0)) * b (ix2 k (j 1)) := by
  rw [hpay]
  exact congrArg (fun z : EReal => z + _) (congrFun ((Memref.isWhole_whole cc0_scratch0).read_unread X) j)

/-- the last point of a run stores what the scratch then holds -/
theorem stored (c : Dev nD) (t : Fin cfg0.N) (h : t.val % 4 = 3) (j : S1408x1024.Idx) :
    (outsAt0 m c t.val t.isLt).1 j = (outsAt0 m c t.val t.isLt).2 j := by
  rw [outsAt0_C m c t (by omega) h]; frame_out
  pointwise [k0_pay3]

open Cert.Reference6Ideal.Read in
theorem final2 (c : Dev nD) : (dats m 0 c).arrAt 2 cfg0.N = val_main_v6 (F := Ideal) (m ((c : Thread nD τ).loc main_arg0)) (m ((c : Thread nD τ).loc main_arg1)) := by
  refine (dats m 0 c).arrAt_eq_of_covers 2 _ (by decide +kernel) fun t hf y => ?_
  have hl : t.val % 4 = 3 := (flush0_2 t).mp hf
  blk_simp
  rw [after0_2, stored m c t hl, Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      · rw [outsAt0_C m c t h h1]; frame_out; exact carry _ _ _ _
      · rw [outsAt0_B m c t h h1]; frame_out; exact carry _ _ _ _)
    t hl _, zero_add]
  pointwise [val_main_v6, val_main_v5, val_main_v4, val_main_v1, val_main_v0]
  refine Fin.sum_mul_add_congr fun s k hl' => (mul_comm (G := EReal) _ _).trans ?_
  blk_point [iblk, V_main_arg0, V_main_arg1, idx t, idx ⟨_, Pipeline.run_point_lt_of_flush t hl s⟩]

open Cert.Reference6Ideal.Read in
/-- the program's results are the reference's -/
theorem algebraic : Cert.algebraic_Kernel6Ideal_Reference6Ideal := by
  intro m g m' g' _ hagree
  refine ⟨fun c => val_main_v6 (F := Ideal) (m ((c : Thread nD τ).loc main_arg0)) (m ((c : Thread nD τ).loc main_arg1)), ?_, ?_⟩
  · refine (θ_run _ _ _).mono (fun r h c => ?_) (Cert.Kernel6Ideal.Value.run_blocks m g)
    obtain ⟨h2, hrest⟩ := h c
    exact ⟨h2.trans (final2 m c), hrest⟩
  · refine (θ_run _ _ _).mono (fun r h c => ?_) (Cert.Reference6Ideal.Value.run m' g')
    obtain ⟨h2, hrest⟩ := h c
    obtain ⟨a0, a1⟩ := hagree c
    refine ⟨h2.trans ((val_main_v6_eq _ _).trans ?_), hrest⟩
    · rw [a0, a1]

end Cert.DwFfnDown
end
-- ==== Proof.DwSquare.lean ====
module

public import proofs.«01_k».proof.Proof.Gen.Kernel7Ideal.Value
public import proofs.«01_k».proof.Proof.Gen.Reference7Ideal.Read
public import proofs.«01_k».proof.Proof.Gen.Reference7Ideal.Run
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.DwSquare

open Cert.Kernel7Ideal Cert.Kernel7Ideal.Gen

variable (m : (ℓ : Loc nD τ sig) → Buf (Elt Ideal) ℓ)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem hzero (j : S1024x1024.Idx) : k0_pay1 (F := Ideal) j = 0 := by
  pointwise [k0_pay1]

theorem hpay (acc : Vec Ideal S1024x1024 .f32) (a : Vec Ideal S2048x1024 .bf16) (b : Vec Ideal S2048x1024 .bf16) (j : S1024x1024.Idx) :
    k0_pay2 (F := Ideal) acc a b j = acc j + ∑ k : Fin 2048, a (ix2 k (j 0)) * b (ix2 k (j 1)) := by
  pointwise [k0_pay2]

/-- one point of a run adds the product of its blocks to what the scratch carries -/
theorem carry (X : Vec Ideal S1024x1024 .f32) (a : Vec Ideal S2048x1024 .bf16) (b : Vec Ideal S2048x1024 .bf16) (j : S1024x1024.Idx) :
    k0_pay2 (F := Ideal) ((View.whole cc0_scratch0).read (Elt Ideal) ((Memref.isWhole_whole cc0_scratch0).unread X)) a b j
      = X j + ∑ k : Fin 2048, a (ix2 k (j 0)) * b (ix2 k (j 1)) := by
  rw [hpay]
  exact congrArg (fun z : EReal => z + _) (congrFun ((Memref.isWhole_whole cc0_scratch0).read_unread X) j)

/-- the last point of a run stores what the scratch then holds -/
theorem stored (c : Dev nD) (t : Fin cfg0.N) (h : t.val % 4 = 3) (j : S1024x1024.Idx) :
    (outsAt0 m c t.val t.isLt).1 j = (outsAt0 m c t.val t.isLt).2 j := by
  rw [outsAt0_C m c t (by omega) h]; frame_out
  pointwise [k0_pay3]

open Cert.Reference7Ideal.Read in
theorem final2 (c : Dev nD) : (dats m 0 c).arrAt 2 cfg0.N = val_main_v6 (F := Ideal) (m ((c : Thread nD τ).loc main_arg0)) (m ((c : Thread nD τ).loc main_arg1)) := by
  refine (dats m 0 c).arrAt_eq_of_covers 2 _ (by decide +kernel) fun t hf y => ?_
  have hl : t.val % 4 = 3 := (flush0_2 t).mp hf
  blk_simp
  rw [after0_2, stored m c t hl, Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      · rw [outsAt0_C m c t h h1]; frame_out; exact carry _ _ _ _
      · rw [outsAt0_B m c t h h1]; frame_out; exact carry _ _ _ _)
    t hl _, zero_add]
  pointwise [val_main_v6, val_main_v5, val_main_v4, val_main_v1, val_main_v0]
  refine Fin.sum_mul_add_congr fun s k hl' => (mul_comm (G := EReal) _ _).trans ?_
  blk_point [iblk, V_main_arg0, V_main_arg1, idx t, idx ⟨_, Pipeline.run_point_lt_of_flush t hl s⟩]

open Cert.Reference7Ideal.Read in
/-- the program's results are the reference's -/
theorem algebraic : Cert.algebraic_Kernel7Ideal_Reference7Ideal := by
  intro m g m' g' _ hagree
  refine ⟨fun c => val_main_v6 (F := Ideal) (m ((c : Thread nD τ).loc main_arg0)) (m ((c : Thread nD τ).loc main_arg1)), ?_, ?_⟩
  · refine (θ_run _ _ _).mono (fun r h c => ?_) (Cert.Kernel7Ideal.Value.run_blocks m g)
    obtain ⟨h2, hrest⟩ := h c
    exact ⟨h2.trans (final2 m c), hrest⟩
  · refine (θ_run _ _ _).mono (fun r h c => ?_) (Cert.Reference7Ideal.Value.run m' g')
    obtain ⟨h2, hrest⟩ := h c
    obtain ⟨a0, a1⟩ := hagree c
    refine ⟨h2.trans ((val_main_v6_eq _ _).trans ?_), hrest⟩
    · rw [a0, a1]

end Cert.DwSquare
end
-- ==== Proof.DwWide.lean ====
module

public import proofs.«01_k».proof.Proof.Gen.Kernel8Ideal.Value
public import proofs.«01_k».proof.Proof.Gen.Reference8Ideal.Read
public import proofs.«01_k».proof.Proof.Gen.Reference8Ideal.Run
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.DwWide

open Cert.Kernel8Ideal Cert.Kernel8Ideal.Gen

variable (m : (ℓ : Loc nD τ sig) → Buf (Elt Ideal) ℓ)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem hzero (j : S1024x1024.Idx) : k0_pay1 (F := Ideal) j = 0 := by
  pointwise [k0_pay1]

theorem hpay (acc : Vec Ideal S1024x1024 .f32) (a : Vec Ideal S2048x1024 .bf16) (b : Vec Ideal S2048x1024 .bf16) (j : S1024x1024.Idx) :
    k0_pay2 (F := Ideal) acc a b j = acc j + ∑ k : Fin 2048, a (ix2 k (j 0)) * b (ix2 k (j 1)) := by
  pointwise [k0_pay2]

/-- one point of a run adds the product of its blocks to what the scratch carries -/
theorem carry (X : Vec Ideal S1024x1024 .f32) (a : Vec Ideal S2048x1024 .bf16) (b : Vec Ideal S2048x1024 .bf16) (j : S1024x1024.Idx) :
    k0_pay2 (F := Ideal) ((View.whole cc0_scratch0).read (Elt Ideal) ((Memref.isWhole_whole cc0_scratch0).unread X)) a b j
      = X j + ∑ k : Fin 2048, a (ix2 k (j 0)) * b (ix2 k (j 1)) := by
  rw [hpay]
  exact congrArg (fun z : EReal => z + _) (congrFun ((Memref.isWhole_whole cc0_scratch0).read_unread X) j)

/-- the last point of a run stores what the scratch then holds -/
theorem stored (c : Dev nD) (t : Fin cfg0.N) (h : t.val % 4 = 3) (j : S1024x1024.Idx) :
    (outsAt0 m c t.val t.isLt).1 j = (outsAt0 m c t.val t.isLt).2 j := by
  rw [outsAt0_C m c t (by omega) h]; frame_out
  pointwise [k0_pay3]

open Cert.Reference8Ideal.Read in
theorem final2 (c : Dev nD) : (dats m 0 c).arrAt 2 cfg0.N = val_main_v8 (F := Ideal) (m ((c : Thread nD τ).loc main_arg0)) (m ((c : Thread nD τ).loc main_arg1)) := by
  refine (dats m 0 c).arrAt_eq_of_covers 2 _ (by decide +kernel) fun t hf y => ?_
  have hl : t.val % 4 = 3 := (flush0_2 t).mp hf
  blk_simp
  rw [after0_2, stored m c t hl, Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      · rw [outsAt0_C m c t h h1]; frame_out; exact carry _ _ _ _
      · rw [outsAt0_B m c t h h1]; frame_out; exact carry _ _ _ _)
    t hl _, zero_add]
  pointwise [val_main_v8, val_main_v7, val_main_v6, val_main_v5, val_main_v1, val_main_v0]
  refine Fin.sum_mul_add_congr fun s k hl' => ?_
  blk_point [iblk, V_main_arg0, V_main_arg1, idx t, idx ⟨_, Pipeline.run_point_lt_of_flush t hl s⟩]

open Cert.Reference8Ideal.Read in
/-- the program's results are the reference's -/
theorem algebraic : Cert.algebraic_Kernel8Ideal_Reference8Ideal := by
  intro m g m' g' _ hagree
  refine ⟨fun c => val_main_v8 (F := Ideal) (m ((c : Thread nD τ).loc main_arg0)) (m ((c : Thread nD τ).loc main_arg1)), ?_, ?_⟩
  · refine (θ_run _ _ _).mono (fun r h c => ?_) (Cert.Kernel8Ideal.Value.run_blocks m g)
    obtain ⟨h2, hrest⟩ := h c
    exact ⟨h2.trans (final2 m c), hrest⟩
  · refine (θ_run _ _ _).mono (fun r h c => ?_) (Cert.Reference8Ideal.Value.run m' g')
    obtain ⟨h2, hrest⟩ := h c
    obtain ⟨a0, a1⟩ := hagree c
    refine ⟨h2.trans ((val_main_v8_eq _ _).trans ?_), hrest⟩
    · rw [a0, a1]

end Cert.DwWide
end
-- ==== Proof.DwInKv.lean ====
module

public import proofs.«01_k».proof.Proof.Gen.Kernel13Ideal.Value
public import proofs.«01_k».proof.Proof.Gen.Reference13Ideal.Read
public import proofs.«01_k».proof.Proof.Gen.Reference13Ideal.Run
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.DwInKv

open Cert.Kernel13Ideal Cert.Kernel13Ideal.Gen

variable (m : (ℓ : Loc nD τ sig) → Buf (Elt Ideal) ℓ)

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem hzero (j : S256x1024.Idx) : k0_pay1 (F := Ideal) j = 0 := by
  pointwise [k0_pay1]

theorem hpay (acc : Vec Ideal S256x1024 .f32) (a : Vec Ideal S2048x256 .bf16) (b : Vec Ideal S2048x1024 .bf16) (j : S256x1024.Idx) :
    k0_pay2 (F := Ideal) acc a b j = acc j + ∑ k : Fin 2048, a (ix2 k (j 0)) * b (ix2 k (j 1)) := by
  pointwise [k0_pay2]

/-- one point of a run adds the product of its blocks to what the scratch carries -/
theorem carry (X : Vec Ideal S256x1024 .f32) (a : Vec Ideal S2048x256 .bf16) (b : Vec Ideal S2048x1024 .bf16) (j : S256x1024.Idx) :
    k0_pay2 (F := Ideal) ((View.whole cc0_scratch0).read (Elt Ideal) ((Memref.isWhole_whole cc0_scratch0).unread X)) a b j
      = X j + ∑ k : Fin 2048, a (ix2 k (j 0)) * b (ix2 k (j 1)) := by
  rw [hpay]
  exact congrArg (fun z : EReal => z + _) (congrFun ((Memref.isWhole_whole cc0_scratch0).read_unread X) j)

/-- the last point of a run stores what the scratch then holds -/
theorem stored (c : Dev nD) (t : Fin cfg0.N) (h : t.val % 4 = 3) (j : S256x1024.Idx) :
    (outsAt0 m c t.val t.isLt).1 j = (outsAt0 m c t.val t.isLt).2 j := by
  rw [outsAt0_C m c t (by omega) h]; frame_out
  pointwise [k0_pay3]

open Cert.Reference13Ideal.Read in
theorem final2 (c : Dev nD) : (dats m 0 c).arrAt 2 cfg0.N = val_main_v8 (F := Ideal) (m ((c : Thread nD τ).loc main_arg0)) (m ((c : Thread nD τ).loc main_arg1)) := by
  refine (dats m 0 c).arrAt_eq_of_covers 2 _ (by decide +kernel) fun t hf y => ?_
  have hl : t.val % 4 = 3 := (flush0_2 t).mp hf
  blk_simp
  rw [after0_2, stored m c t hl, Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      · rw [outsAt0_C m c t h h1]; frame_out; exact carry _ _ _ _
      · rw [outsAt0_B m c t h h1]; frame_out; exact carry _ _ _ _)
    t hl _, zero_add]
  pointwise [val_main_v8, val_main_v7, val_main_v6, val_main_v5, val_main_v1, val_main_v0]
  refine Fin.sum_mul_add_congr fun s k hl' => ?_
  blk_point [iblk, V_main_arg0, V_main_arg1, idx t, idx ⟨_, Pipeline.run_point_lt_of_flush t hl s⟩]

open Cert.Reference13Ideal.Read in
/-- the program's results are the reference's -/
theorem algebraic : Cert.algebraic_Kernel13Ideal_Reference13Ideal := by
  intro m g m' g' _ hagree
  refine ⟨fun c => val_main_v8 (F := Ideal) (m ((c : Thread nD τ).loc main_arg0)) (m ((c : Thread nD τ).loc main_arg1)), ?_, ?_⟩
  · refine (θ_run _ _ _).mono (fun r h c => ?_) (Cert.Kernel13Ideal.Value.run_blocks m g)
    obtain ⟨h2, hrest⟩ := h c
    exact ⟨h2.trans (final2 m c), hrest⟩
  · refine (θ_run _ _ _).mono (fun r h c => ?_) (Cert.Reference13Ideal.Value.run m' g')
    obtain ⟨h2, hrest⟩ := h c
    obtain ⟨a0, a1⟩ := hagree c
    refine ⟨h2.trans ((val_main_v8_eq _ _).trans ?_), hrest⟩
    · rw [a0, a1]

end Cert.DwInKv
end
-- ==== Proof.InRows.lean ====
module

public import proofs.«01_k».proof.Proof.Gen.Kernel20Ideal.Value
public import proofs.«01_k».proof.Proof.Gen.Reference20Ideal.Read
public import proofs.«01_k».proof.Proof.Gen.Reference20Ideal.Run
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.InRows

open Cert.Kernel20Ideal Cert.Kernel20Ideal.Gen

variable (m : (ℓ : Loc nD τ sig) → Buf (Elt Ideal) ℓ)

/-- the four parts have 8, 4, 1 and 8 blocks of 256 rows; a part's window stays at its first or last block while another part is copied -/
theorem idx : ∀ t : Fin cfg0.N, win0_0.index t = ![min t.val 7, 0] ∧ win0_1.index t = ![min (t.val - 8) 3, 0] ∧ win0_2.index t = ![0, 0]
    ∧ win0_3.index t = ![t.val - 13, 0] ∧ win0_4.index t = ![t.val, 0] :=
  (by decide +kernel : ∀ t : Fin grid0.N, _)

open Cert.Reference20Ideal.Read in
theorem final (c : Dev nD) : (dats m 0 c).arrAt 4 cfg0.N
    = val_main_v0 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  have ht : t.val < 21 := lt_of_lt_of_eq t.isLt N_0
  blk_simp
  rw [after0_4]
  have e0 : ((((View.whole main_v0).slice (win0_4.rect t)).emb y) 0 : ℕ) = t.val * 256 + (y 0 : ℕ) := by blk_simp [idx t]
  have e1 : ((((View.whole main_v0).slice (win0_4.rect t)).emb y) 1 : ℕ) = (y 1 : ℕ) := by blk_simp [idx t]
  have hy : (y 0 : ℕ) < 256 := (y 0).isLt
  by_cases h0 : t.val < 8
  · rw [outsAt0_A m c t h0 (by omega) (by omega) (by omega)]
    frame_out
    pointwise [val_main_v0]
    rw [dif_pos (by omega)]
    blk_point [iblk, V_main_arg0, idx t]
  by_cases h1 : t.val < 12
  · rw [outsAt0_B m c t h0 (by omega) (by omega) (by omega)]
    frame_out
    pointwise [val_main_v0]
    rw [dif_neg (by omega), dif_pos (by omega)]
    blk_point [iblk, V_main_arg1, idx t]
  by_cases h2 : t.val = 12
  · rw [outsAt0_C m c t h0 (by omega) (by omega) (by omega)]
    frame_out
    pointwise [val_main_v0]
    rw [dif_neg (by omega), dif_neg (by omega), dif_pos (by omega)]
    blk_point [iblk, V_main_arg2, idx t]
  · rw [outsAt0_D m c t h0 (by omega) (by omega) (by omega)]
    frame_out
    pointwise [val_main_v0]
    rw [dif_neg (by omega), dif_neg (by omega), dif_neg (by omega)]
    blk_point [iblk, V_main_arg3, idx t]

open Cert.Reference20Ideal.Read in
theorem algebraic : Cert.algebraic_Kernel20Ideal_Reference20Ideal := by
  intro m g m' g' _ hagree
  refine ⟨fun c => val_main_v0 (F := Ideal) (m ((c : Thread nD τ).loc main_arg0)) (m ((c : Thread nD τ).loc main_arg1)) (m ((c : Thread nD τ).loc main_arg2)) (m ((c : Thread nD τ).loc main_arg3)), ?_, ?_⟩
  · refine (θ_run _ _ _).mono (fun r h c => ?_) (Cert.Kernel20Ideal.Value.run_blocks m g)
    obtain ⟨h0, hrest⟩ := h c
    exact ⟨h0.trans (final m c), hrest⟩
  · refine (θ_run _ _ _).mono (fun r h c => ?_) (Cert.Reference20Ideal.Value.run m' g')
    obtain ⟨h0, hrest⟩ := h c
    obtain ⟨a0, a1, a2, a3⟩ := hagree c
    refine ⟨h0.trans ((val_main_v0_eq _ _ _ _).trans ?_), hrest⟩
    rw [a0, a1, a2, a3]

end Cert.InRows
end
-- ==== Proof.Inproj.lean ====
module

public import proofs.«01_k».proof.Proof.Gen.Kernel9Ideal.Value
public import proofs.«01_k».proof.Proof.Gen.Reference9Ideal.Read
public import proofs.«01_k».proof.Proof.Gen.Reference9Ideal.Run
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.Inproj

open Cert.Kernel9Ideal Cert.Kernel9Ideal.Gen

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![t.val, 0]
    ∧ win0_4.index t = ![t.val, 0] :=
  (by decide +kernel : ∀ t : Fin grid0.N, _)

open Cert.Reference9Ideal.Read in
/-- a row of the block, normalised -/
theorem normed (c : Dev nD) (t : Fin cfg0.N) (p : Fin 512) (q : Fin 1024) (r : Fin 8192) (hr : (r : ℕ) = t.val * 512 + (p : ℕ)) :
    k0_pay1 (F := Ideal) (iblk m c 0 t) (iblk m c 1 t) (ix2 p q) = val_main_v11 (F := Ideal) (m ((c : Thread nD τ).loc main_arg0)) (m ((c : Thread nD τ).loc main_arg1)) (ix2 r q) := by
  pointwise [k0_pay1, val_main_v11, val_main_v10, val_main_v9, val_main_v8, val_main_v7, val_main_v6, val_main_v5, val_main_v4, val_main_v3, val_main_v2, val_main_v1, val_main_v0, val_main_cst, val_main_cst_0, val_main_cst_1]
  blk_point [iblk, V_main_arg0, V_main_arg1, idx t]

open Cert.Reference9Ideal.Read in
theorem final4 (c : Dev nD) : (dats m 0 c).arrAt 4 cfg0.N = val_main_v20 (F := Ideal) (m ((c : Thread nD τ).loc main_arg0)) (m ((c : Thread nD τ).loc main_arg1)) := by
  refine (dats m 0 c).arrAt_eq_of_covers 4 _ (by decide +kernel) fun t _ y => ?_
  blk_simp
  rw [after0_4]; unfold outsAt0; frame_out
  idx_vars y
  refine (normed m c t y0 y1 ⟨t.val * 512 + y0.val, by have := lt_of_lt_of_eq t.isLt N_0; omega⟩ rfl).trans ?_
  pointwise [val_main_v20]
  blk_point [idx t]

open Cert.Reference9Ideal.Read in
theorem coreconv (c : Dev nD) (t : Fin cfg0.N) (x : S512x2048.Idx) (j : S8192x5376.Idx)
    (h0 : (j 0 : ℕ) = t.val * 512 + (x 0 : ℕ)) (h1 : (j 1 : ℕ) = 0 + (x 1 : ℕ)) :
    k0_pay2 (F := Ideal) (iblk m c 0 t) (iblk m c 1 t) (View.ld (iblk m c 2 t) (Rect.unit ![0, 0] ![2048, 1024] inb_S5376x1024_S2048x1024_0_0)) x = val_main_v19 (F := Ideal) (m ((c : Thread nD τ).loc main_arg0)) (m ((c : Thread nD τ).loc main_arg1)) (m ((c : Thread nD τ).loc main_arg2)) j := by
  pointwise [k0_pay2, val_main_v19, val_main_v18, val_main_v17, val_main_v16, val_main_v15, val_main_v14, val_main_v13, val_main_v12]
  have hx := (x 1).isLt
  simp at hx
  rw [dif_pos (by omega)]
  refine Finset.sum_congr rfl fun k _ => ?_
  refine congrArg₂ (HMul.hMul (α := EReal) (β := EReal) (γ := EReal)) (normed m c t (x 0) k (j 0) h0) ?_
  blk_point [iblk, V_main_arg2, idx t]

open Cert.Reference9Ideal.Read in
theorem coregates (c : Dev nD) (t : Fin cfg0.N) (x : S512x2048.Idx) (j : S8192x5376.Idx)
    (h0 : (j 0 : ℕ) = t.val * 512 + (x 0 : ℕ)) (h1 : (j 1 : ℕ) = 2048 + (x 1 : ℕ)) :
    k0_pay3 (F := Ideal) (iblk m c 0 t) (iblk m c 1 t) (View.ld (iblk m c 2 t) (Rect.unit ![3328, 0] ![2048, 1024] inb_S5376x1024_S2048x1024_3328_0)) x = val_main_v19 (F := Ideal) (m ((c : Thread nD τ).loc main_arg0)) (m ((c : Thread nD τ).loc main_arg1)) (m ((c : Thread nD τ).loc main_arg2)) j := by
  pointwise [k0_pay3, val_main_v19, val_main_v18, val_main_v17, val_main_v16, val_main_v15, val_main_v14, val_main_v13, val_main_v12]
  have hx := (x 1).isLt
  simp at hx
  rw [dif_neg (by omega), dif_pos (by omega)]
  refine Finset.sum_congr rfl fun k _ => ?_
  refine congrArg₂ (HMul.hMul (α := EReal) (β := EReal) (γ := EReal)) (normed m c t (x 0) k (j 0) h0) ?_
  blk_point [iblk, V_main_arg2, idx t]

open Cert.Reference9Ideal.Read in
theorem coreqkv (c : Dev nD) (t : Fin cfg0.N) (x : S512x1280.Idx) (j : S8192x5376.Idx)
    (h0 : (j 0 : ℕ) = t.val * 512 + (x 0 : ℕ)) (h1 : (j 1 : ℕ) = 4096 + (x 1 : ℕ)) :
    k0_pay4 (F := Ideal) (iblk m c 0 t) (iblk m c 1 t) (View.ld (iblk m c 2 t) (Rect.unit ![2048, 0] ![1280, 1024] inb_S5376x1024_S1280x1024_2048_0)) x = val_main_v19 (F := Ideal) (m ((c : Thread nD τ).loc main_arg0)) (m ((c : Thread nD τ).loc main_arg1)) (m ((c : Thread nD τ).loc main_arg2)) j := by
  pointwise [k0_pay4, val_main_v19, val_main_v18, val_main_v17, val_main_v16, val_main_v15, val_main_v14, val_main_v13, val_main_v12]
  have hx := (x 1).isLt
  simp at hx
  rw [dif_neg (by omega), dif_neg (by omega)]
  refine Finset.sum_congr rfl fun k _ => ?_
  refine congrArg₂ (HMul.hMul (α := EReal) (β := EReal) (γ := EReal)) (normed m c t (x 0) k (j 0) h0) ?_
  blk_point [iblk, V_main_arg2, idx t]

open Cert.Reference9Ideal.Read in
theorem final3 (c : Dev nD) : (dats m 0 c).arrAt 3 cfg0.N = val_main_v19 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; unfold outsAt0; frame_out
  canon_tiles x h using View.cover_of_tiledBy _ ![512, 256] (by sl_kernel_rfl) _
  · refine coreqkv m c t x _ ?_ ?_ <;> blk_simp [idx t] <;> omega
  · refine coregates m c t x _ ?_ ?_ <;> blk_simp [idx t] <;> omega
  · refine coreconv m c t x _ ?_ ?_ <;> blk_simp [idx t] <;> omega

open Cert.Reference9Ideal.Read in
/-- the program's results are the reference's -/
theorem algebraic : Cert.algebraic_Kernel9Ideal_Reference9Ideal := by
  intro m g m' g' _ hagree
  refine ⟨fun c => val_main_v19 (F := Ideal) (m ((c : Thread nD τ).loc main_arg0)) (m ((c : Thread nD τ).loc main_arg1)) (m ((c : Thread nD τ).loc main_arg2)),
    fun c => val_main_v20 (F := Ideal) (m ((c : Thread nD τ).loc main_arg0)) (m ((c : Thread nD τ).loc main_arg1)), ?_, ?_⟩
  · refine (θ_run _ _ _).mono (fun r h c => ?_) (Cert.Kernel9Ideal.Value.run_blocks m g)
    obtain ⟨h3, h4, hrest⟩ := h c
    exact ⟨h3.trans (final3 m c), h4.trans (final4 m c), hrest⟩
  · refine (θ_run _ _ _).mono (fun r h c => ?_) (Cert.Reference9Ideal.Value.run m' g')
    obtain ⟨h3, h4, hrest⟩ := h c
    obtain ⟨a0, a1, a2⟩ := hagree c
    refine ⟨h3.trans ((val_main_v19_eq _ _ _).trans ?_), h4.trans ((val_main_v20_eq _ _).trans ?_), hrest⟩
    · rw [a0, a1, a2]
    · rw [a0, a1]

end Cert.Inproj
end
-- ==== Proof.Merge.lean ====
module

public import proofs.«01_k».proof.Proof.Gen.Kernel10Ideal.Value
public import proofs.«01_k».proof.Proof.Gen.Reference10Ideal.Read
public import proofs.«01_k».proof.Proof.Gen.Reference10Ideal.Run
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.Merge

open Cert.Kernel10Ideal Cert.Kernel10Ideal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 2] ∧ win0_3.index t = ![t.val, 3]
    ∧ win0_4.index t = ![t.val, 0] ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] ∧ win0_12.index t = ![t.val, 0]
    ∧ win0_13.index t = ![t.val, 0] :=
  (by decide +kernel : ∀ t : Fin grid0.N, _)

theorem row_lt (t : Fin cfg0.N) (p : Fin 512) : t.val * 512 + (p : ℕ) < 8192 := by
  have := lt_of_lt_of_eq t.isLt N_0
  omega

/-- the gate columns of the convolution branch, as the body reads them -/
theorem gate2 (c : Dev nD) (t : Fin cfg0.N) (p : Fin 512) (q : Fin 1024) (r : Fin 8192) (hr : (r : ℕ) = t.val * 512 + (p : ℕ)) (l : Fin 5376) (hl : (l : ℕ) = 2048 + (q : ℕ)) :
    X0_2 m c t (ix2 p q) = m ((c : Thread nD τ).loc main_arg2) (ix2 r l) := by
  unfold X0_2 Pipeline.Window.fill
  rw [dif_pos (moved0_2 t _)]
  blk_point [iblk, V_main_arg2, idx t]

/-- and those of the attention branch -/
theorem gate3 (c : Dev nD) (t : Fin cfg0.N) (p : Fin 512) (q : Fin 1024) (r : Fin 8192) (hr : (r : ℕ) = t.val * 512 + (p : ℕ)) (l : Fin 5376) (hl : (l : ℕ) = 3072 + (q : ℕ)) :
    X0_3 m c t (ix2 p q) = m ((c : Thread nD τ).loc main_arg2) (ix2 r l) := by
  unfold X0_3 Pipeline.Window.fill
  rw [dif_pos (moved0_3 t _)]
  blk_point [iblk, V_main_arg2, idx t]

open Cert.Reference10Ideal.Read in
/-- the convolution branch -/
theorem yc (c : Dev nD) (t : Fin cfg0.N) (p : Fin 512) (q : Fin 1024) (r : Fin 8192) (hr : (r : ℕ) = t.val * 512 + (p : ℕ)) :
    k0_pay2 (F := Ideal) (iblk m c 0 t) (iblk m c 5 t) (ix2 p q) = val_main_v20 (F := Ideal) (m ((c : Thread nD τ).loc main_arg0)) (m ((c : Thread nD τ).loc main_arg4)) (ix2 r q) := by
  pointwise [k0_pay2, val_main_v20, val_main_v0, val_main_v3]
  blk_point [iblk, V_main_arg0, V_main_arg4, idx t]

open Cert.Reference10Ideal.Read in
/-- the attention branch -/
theorem ya (c : Dev nD) (t : Fin cfg0.N) (p : Fin 512) (q : Fin 1024) (r : Fin 8192) (hr : (r : ℕ) = t.val * 512 + (p : ℕ)) :
    k0_pay3 (F := Ideal) (iblk m c 1 t) (iblk m c 6 t) (ix2 p q) = val_main_v21 (F := Ideal) (m ((c : Thread nD τ).loc main_arg1)) (m ((c : Thread nD τ).loc main_arg5)) (ix2 r q) := by
  pointwise [k0_pay3, val_main_v21, val_main_v1, val_main_v4]
  blk_point [iblk, V_main_arg1, V_main_arg5, idx t]

open Cert.Reference10Ideal.Read in
/-- the gated sum of the branches -/
theorem z (c : Dev nD) (t : Fin cfg0.N) (p : Fin 512) (q : Fin 1024) (r : Fin 8192) (hr : (r : ℕ) = t.val * 512 + (p : ℕ)) :
    k0_pay6 (F := Ideal) (iblk m c 0 t) (iblk m c 5 t) (iblk m c 1 t) (iblk m c 6 t) (X0_2 m c t) (X0_3 m c t) (ix2 p q) = val_main_v24 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (ix2 r q) := by
  pointwise [k0_pay6, val_main_v24, val_main_v23, val_main_v22, val_main_v6, val_main_v7, val_main_v8, val_main_v9, val_main_v10, val_main_v11, val_main_v12, val_main_v13, val_main_v14, val_main_v15, val_main_v16, val_main_v17, val_main_v18, val_main_v19, val_main_v2, val_main_cst, val_main_cst_0, val_main_cst_1, val_main_cst_2]
  rw [yc m c t p q r hr, ya m c t p q r hr, gate2 m c t p q r hr ⟨2048 + (q : ℕ), by omega⟩ rfl, gate3 m c t p q r hr ⟨3072 + (q : ℕ), by omega⟩ rfl]
  unfold Ideal.logistic
  blk_point [iblk, V_main_arg2, idx t]

open Cert.Reference10Ideal.Read in
/-- the residual stream behind the merge -/
theorem h (c : Dev nD) (t : Fin cfg0.N) (p : Fin 512) (q : Fin 1024) (r : Fin 8192) (hr : (r : ℕ) = t.val * 512 + (p : ℕ)) :
    k0_pay7 (F := Ideal) (iblk m c 0 t) (iblk m c 5 t) (iblk m c 1 t) (iblk m c 6 t) (X0_2 m c t) (X0_3 m c t) (iblk m c 4 t) (iblk m c 7 t) (ix2 p q) = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r q) := by
  pointwise [k0_pay7, val_main_v26, val_main_v25, val_main_v5]
  refine congrArg₂ (HAdd.hAdd (α := EReal) (β := EReal) (γ := EReal)) ?_ (Finset.sum_congr rfl fun k _ => ?_)
  · blk_point [iblk, V_main_arg3, idx t]
  · refine congrArg₂ (HMul.hMul (α := EReal) (β := EReal) (γ := EReal)) (z m c t p k r hr) ?_
    blk_point [iblk, V_main_arg6, idx t]

open Cert.Reference10Ideal.Read in
/-- … and its norm -/
theorem hn (c : Dev nD) (t : Fin cfg0.N) (p : Fin 512) (q : Fin 1024) (r : Fin 8192) (hr : (r : ℕ) = t.val * 512 + (p : ℕ)) :
    k0_pay1 (F := Ideal) (k0_pay7 (F := Ideal) (iblk m c 0 t) (iblk m c 5 t) (iblk m c 1 t) (iblk m c 6 t) (X0_2 m c t) (X0_3 m c t) (iblk m c 4 t) (iblk m c 7 t)) (k0_pay8 (F := Ideal) (iblk m c 0 t) (iblk m c 5 t) (iblk m c 1 t) (iblk m c 6 t) (X0_2 m c t) (X0_3 m c t) (iblk m c 4 t) (iblk m c 7 t)) (iblk m c 8 t) (ix2 p q) = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 r q) := by
  pointwise [k0_pay1, k0_pay8, val_main_v30, val_main_v31, val_main_v32, val_main_v33, val_main_v34, val_main_v35, val_main_v36, val_main_v37, val_main_v38, val_main_v39, val_main_v40, val_main_v41, val_main_cst_3, val_main_cst_4, val_main_cst_5]
  simp only [h m c t p _ r hr]
  blk_point [iblk, V_main_arg7, idx t]

open Cert.Reference10Ideal.Read in
theorem final9 (c : Dev nD) : (dats m 0 c).arrAt 9 cfg0.N = val_main_v27 (F := Ideal) (m ((c : Thread nD τ).loc main_arg0)) (m ((c : Thread nD τ).loc main_arg4)) := by
  refine (dats m 0 c).arrAt_eq_of_covers 9 _ (by decide +kernel) fun t _ y => ?_
  blk_simp
  rw [after0_9]; unfold outsAt0; frame_out
  idx_vars y
  pointwise [k0_pay4]
  refine (yc m c t y0 y1 ⟨t.val * 512 + y0.val, row_lt t y0⟩ rfl).trans ?_
  pointwise [val_main_v27]
  blk_point [idx t]

open Cert.Reference10Ideal.Read in
theorem final10 (c : Dev nD) : (dats m 0 c).arrAt 10 cfg0.N = val_main_v28 (F := Ideal) (m ((c : Thread nD τ).loc main_arg1)) (m ((c : Thread nD τ).loc main_arg5)) := by
  refine (dats m 0 c).arrAt_eq_of_covers 10 _ (by decide +kernel) fun t _ y => ?_
  blk_simp
  rw [after0_10]; unfold outsAt0; frame_out
  idx_vars y
  pointwise [k0_pay5]
  refine (ya m c t y0 y1 ⟨t.val * 512 + y0.val, row_lt t y0⟩ rfl).trans ?_
  pointwise [val_main_v28]
  blk_point [idx t]

open Cert.Reference10Ideal.Read in
theorem final11 (c : Dev nD) : (dats m 0 c).arrAt 11 cfg0.N = val_main_v29 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (dats m 0 c).arrAt_eq_of_covers 11 _ (by decide +kernel) fun t _ y => ?_
  blk_simp
  rw [after0_11]; unfold outsAt0; frame_out
  idx_vars y
  refine (z m c t y0 y1 ⟨t.val * 512 + y0.val, row_lt t y0⟩ rfl).trans ?_
  pointwise [val_main_v29]
  blk_point [idx t]

open Cert.Reference10Ideal.Read in
theorem final12 (c : Dev nD) : (dats m 0 c).arrAt 12 cfg0.N = val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t _ y => ?_
  blk_simp
  rw [after0_12]; unfold outsAt0; frame_out
  idx_vars y
  refine (h m c t y0 y1 ⟨t.val * 512 + y0.val, row_lt t y0⟩ rfl).trans ?_
  blk_point [idx t]

open Cert.Reference10Ideal.Read in
theorem final13 (c : Dev nD) : (dats m 0 c).arrAt 13 cfg0.N = val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 13 _ (by decide +kernel) fun t _ y => ?_
  blk_simp
  rw [after0_13]; unfold outsAt0; frame_out
  idx_vars y
  refine (hn m c t y0 y1 ⟨t.val * 512 + y0.val, row_lt t y0⟩ rfl).trans ?_
  pointwise [val_main_v42]
  blk_point [idx t]

open Cert.Reference10Ideal.Read in
/-- the program's results are the reference's -/
theorem algebraic : Cert.algebraic_Kernel10Ideal_Reference10Ideal := by
  intro m g m' g' _ hagree
  refine ⟨fun c => val_main_v27 (F := Ideal) (m ((c : Thread nD τ).loc main_arg0)) (m ((c : Thread nD τ).loc main_arg4)),
    fun c => val_main_v28 (F := Ideal) (m ((c : Thread nD τ).loc main_arg1)) (m ((c : Thread nD τ).loc main_arg5)),
    fun c => val_main_v29 (F := Ideal) (m ((c : Thread nD τ).loc main_arg0)) (m ((c : Thread nD τ).loc main_arg1)) (m ((c : Thread nD τ).loc main_arg2)) (m ((c : Thread nD τ).loc main_arg4)) (m ((c : Thread nD τ).loc main_arg5)),
    fun c => val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
    fun c => val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)), ?_, ?_⟩
  · refine (θ_run _ _ _).mono (fun r h c => ?_) (Cert.Kernel10Ideal.Value.run_blocks m g)
    obtain ⟨h9, h10, h11, h12, h13, hrest⟩ := h c
    exact ⟨h9.trans (final9 m c), h10.trans (final10 m c), h11.trans (final11 m c), h12.trans (final12 m c), h13.trans (final13 m c), hrest⟩
  · refine (θ_run _ _ _).mono (fun r h c => ?_) (Cert.Reference10Ideal.Value.run m' g')
    obtain ⟨h9, h10, h11, h12, h13, hrest⟩ := h c
    obtain ⟨a0, a1, a2, a3, a4, a5, a6, a7⟩ := hagree c
    refine ⟨h9.trans ((val_main_v27_eq _ _).trans ?_), h10.trans ((val_main_v28_eq _ _).trans ?_), h11.trans ((val_main_v29_eq _ _ _ _ _).trans ?_), h12.trans ((val_main_v26_eq _ _ _ _ _ _ _).trans ?_), h13.trans ((val_main_v42_eq m' c).trans ?_), hrest⟩
    · rw [a0, a4]
    · rw [a1, a5]
    · rw [a0, a1, a2, a4, a5]
    · rw [a0, a1, a2, a3, a4, a5, a6]
    · rw [a0, a1, a2, a3, a4, a5, a6, a7]

end Cert.Merge
end
-- ==== Proof.FfnIn.lean ====
module

public import proofs.«01_k».proof.Proof.Gen.Kernel12Ideal.Value
public import proofs.«01_k».proof.Proof.Gen.Reference12Ideal.Read
public import proofs.«01_k».proof.Proof.Gen.Reference12Ideal.Run
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.FfnIn

open Cert.Kernel12Ideal Cert.Kernel12Ideal.Gen

variable (m : (ℓ : Loc nD τ sig) → Buf (Elt Ideal) ℓ)

/-- the derivative of `g σ(g)`, factored as the kernel has it and as the product rule gives it; `σ(±∞)` is `0` or `1`, so the two forms also agree there -/
theorem slope (g : EReal) :
    Ideal.logistic g * (1 + g * (1 - Ideal.logistic g)) = Ideal.logistic g + g * (Ideal.logistic g * (1 - Ideal.logistic g)) := by
  have one_sub : (1 : EReal) - 1 = 0 := by
    rw [← EReal.coe_one, ← EReal.coe_sub, sub_self, EReal.coe_zero]
  induction g with
  | bot =>
    have h : Ideal.logistic ⊥ = 0 := by
      have he : (1 : EReal) + Ideal.exp (-⊥) = ⊤ := rfl
      unfold Ideal.logistic Ideal.div
      rw [he, if_neg (by simp)]
      simp
    rw [h]
    simp
  | top =>
    have h : Ideal.logistic ⊤ = 1 := by
      have he : (1 : EReal) + Ideal.exp (-⊤) = 1 := add_zero 1
      unfold Ideal.logistic Ideal.div
      rw [he, if_neg (by simp)]
      simp
    rw [h, one_sub]
    simp
  | coe x =>
    have h : ∃ s : ℝ, Ideal.logistic (x : EReal) = (s : EReal) := by
      refine ⟨(1 + Real.exp (-x))⁻¹, ?_⟩
      have he : (1 : EReal) + Ideal.exp (-(x : EReal)) = ((1 + Real.exp (-x) : ℝ) : EReal) := by
        rw [← EReal.coe_neg]
        show (1 : EReal) + ((Real.exp (-x) : ℝ) : EReal) = _
        push_cast
        rfl
      have hp : (0 : ℝ) < 1 + Real.exp (-x) := by positivity
      unfold Ideal.logistic Ideal.div
      rw [he, if_neg (by exact_mod_cast hp.ne'), one_mul, EReal.coe_inv]
    obtain ⟨s, hs⟩ := h
    rw [hs]
    norm_cast
    ring

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem row_lt (t : Fin cfg0.N) (p : Fin 512) : t.val * 512 + (p : ℕ) < 8192 := by
  have := lt_of_lt_of_eq t.isLt N_0
  omega

open Cert.Reference12Ideal.Read in
/-- the gate's columns of the product -/
theorem gate (c : Dev nD) (t : Fin cfg0.N) (p : Fin 512) (q : Fin 2816) (r : Fin 8192) (hr : (r : ℕ) = t.val * 512 + (p : ℕ)) :
    k0_pay2 (F := Ideal) (iblk m c 0 t) (iblk m c 1 t) (ix2 p q) = val_main_v4 (F := Ideal) (m ((c : Thread nD τ).loc main_arg0)) (m ((c : Thread nD τ).loc main_arg1)) (ix2 r q) := by
  pointwise [k0_pay2, k0_pay1, val_main_v4, val_main_v3, val_main_v2, val_main_v1, val_main_v0]
  blk_point [iblk, V_main_arg0, V_main_arg1, idx t]

open Cert.Reference12Ideal.Read in
/-- and those of `up` -/
theorem up (c : Dev nD) (t : Fin cfg0.N) (p : Fin 512) (q : Fin 2816) (r : Fin 8192) (hr : (r : ℕ) = t.val * 512 + (p : ℕ)) :
    k0_pay3 (F := Ideal) (iblk m c 0 t) (iblk m c 1 t) (ix2 p q) = val_main_v5 (F := Ideal) (m ((c : Thread nD τ).loc main_arg0)) (m ((c : Thread nD τ).loc main_arg1)) (ix2 r q) := by
  pointwise [k0_pay3, k0_pay1, val_main_v5, val_main_v3, val_main_v2, val_main_v1, val_main_v0]
  blk_point [iblk, V_main_arg0, V_main_arg1, idx t]

open Cert.Reference12Ideal.Read in
/-- `silu(gate)` -/
theorem silu (c : Dev nD) (t : Fin cfg0.N) (p : Fin 512) (q : Fin 2816) (r : Fin 8192) (hr : (r : ℕ) = t.val * 512 + (p : ℕ)) :
    k0_pay5 (F := Ideal) (iblk m c 0 t) (iblk m c 1 t) (ix2 p q) = val_main_v6_0 (F := Ideal) (m ((c : Thread nD τ).loc main_arg0)) (m ((c : Thread nD τ).loc main_arg1)) (ix2 r q) := by
  pointwise [k0_pay5, k0_pay4, val_main_v6_0, val_main_v6_2, val_main_call0_v0, val_main_call0_v1, val_main_call0_v2, val_main_call0_v3, val_main_call0_v4, val_main_call0_cst, val_main_call0_cst_0]
  rw [gate m c t p q r hr]
  rfl

open Cert.Reference12Ideal.Read in
/-- the partial derivative by the gate -/
theorem bygate (c : Dev nD) (t : Fin cfg0.N) (p : Fin 512) (q : Fin 2816) (r : Fin 8192) (hr : (r : ℕ) = t.val * 512 + (p : ℕ)) :
    k0_pay7 (F := Ideal) (iblk m c 0 t) (iblk m c 1 t) (ix2 p q) = val_main_v9 (F := Ideal) (m ((c : Thread nD τ).loc main_arg0)) (m ((c : Thread nD τ).loc main_arg1)) (ix2 r q) := by
  pointwise [k0_pay7, k0_pay4, val_main_v9, val_main_v8, val_main_call1_v0, val_main_call1_v1, val_main_call1_v2, val_main_v7, val_main_cst, val_main_v6_1, val_main_call0_v7, val_main_call0_v6, val_main_call0_cst_1, val_main_v6_2, val_main_call0_v0, val_main_call0_v1, val_main_call0_v2, val_main_call0_v3, val_main_call0_v4, val_main_call0_cst, val_main_call0_cst_0]
  rw [gate m c t p q r hr, up m c t p q r hr]
  exact (mul_comm (G := EReal) _ _).trans (congrArg (fun x : EReal => x * _) (slope _))

open Cert.Reference12Ideal.Read in
theorem core2a (c : Dev nD) (t : Fin cfg0.N) (x : S512x2816.Idx) (j : S8192x5632.Idx)
    (h0 : (j 0 : ℕ) = t.val * 512 + (x 0 : ℕ)) (h1 : (j 1 : ℕ) = (x 1 : ℕ)) :
    k0_pay7 (F := Ideal) (iblk m c 0 t) (iblk m c 1 t) x = val_main_v11 (F := Ideal) (m ((c : Thread nD τ).loc main_arg0)) (m ((c : Thread nD τ).loc main_arg1)) j := by
  idx_vars x
  refine (bygate m c t x0 x1 (j 0) h0).trans ?_
  pointwise [val_main_v11, val_main_v10]
  have hx := x1.isLt
  rw [dif_pos (by simp at h1; omega)]
  blk_point

open Cert.Reference12Ideal.Read in
theorem core2b (c : Dev nD) (t : Fin cfg0.N) (x : S512x2816.Idx) (j : S8192x5632.Idx)
    (h0 : (j 0 : ℕ) = t.val * 512 + (x 0 : ℕ)) (h1 : (j 1 : ℕ) = 2816 + (x 1 : ℕ)) :
    k0_pay8 (F := Ideal) (iblk m c 0 t) (iblk m c 1 t) x = val_main_v11 (F := Ideal) (m ((c : Thread nD τ).loc main_arg0)) (m ((c : Thread nD τ).loc main_arg1)) j := by
  idx_vars x
  refine (silu m c t x0 x1 (j 0) h0).trans ?_
  pointwise [val_main_v11, val_main_v10]
  have hx := x1.isLt
  rw [dif_neg (by simp at h1; omega)]
  blk_point

open Cert.Reference12Ideal.Read in
theorem final2 (c : Dev nD) : (dats m 0 c).arrAt 2 cfg0.N = val_main_v11 (F := Ideal) (m ((c : Thread nD τ).loc main_arg0)) (m ((c : Thread nD τ).loc main_arg1)) := by
  refine (dats m 0 c).arrAt_eq_of_covers 2 _ (by decide +kernel) fun t _ y => ?_
  blk_simp
  rw [after0_2]; unfold out0_2; frame_out
  canon_tiles x h
  · refine core2b m c t x _ ?_ ?_ <;> blk_simp [idx t] <;> omega
  · refine core2a m c t x _ ?_ ?_ <;> blk_simp [idx t] <;> omega

open Cert.Reference12Ideal.Read in
theorem final3 (c : Dev nD) : (dats m 0 c).arrAt 3 cfg0.N = val_main_v13 (F := Ideal) (m ((c : Thread nD τ).loc main_arg0)) (m ((c : Thread nD τ).loc main_arg1)) := by
  refine (dats m 0 c).arrAt_eq_of_covers 3 _ (by decide +kernel) fun t _ y => ?_
  blk_simp
  rw [after0_3]; unfold out0_3; frame_out
  idx_vars y
  pointwise [k0_pay6]
  rw [silu m c t y0 y1 ⟨t.val * 512 + y0.val, row_lt t y0⟩ rfl, up m c t y0 y1 ⟨t.val * 512 + y0.val, row_lt t y0⟩ rfl]
  pointwise [val_main_v13, val_main_v12]
  blk_point [idx t]

open Cert.Reference12Ideal.Read in
/-- the program's results are the reference's -/
theorem algebraic : Cert.algebraic_Kernel12Ideal_Reference12Ideal := by
  intro m g m' g' _ hagree
  refine ⟨fun c => val_main_v11 (F := Ideal) (m ((c : Thread nD τ).loc main_arg0)) (m ((c : Thread nD τ).loc main_arg1)),
    fun c => val_main_v13 (F := Ideal) (m ((c : Thread nD τ).loc main_arg0)) (m ((c : Thread nD τ).loc main_arg1)), ?_, ?_⟩
  · refine (θ_run _ _ _).mono (fun r h c => ?_) (Cert.Kernel12Ideal.Value.run_blocks m g)
    obtain ⟨h2, h3, hrest⟩ := h c
    exact ⟨h2.trans (final2 m c), h3.trans (final3 m c), hrest⟩
  · refine (θ_run _ _ _).mono (fun r h c => ?_) (Cert.Reference12Ideal.Value.run m' g')
    obtain ⟨h2, h3, hrest⟩ := h c
    obtain ⟨a0, a1⟩ := hagree c
    refine ⟨h2.trans ((val_main_v11_eq _ _).trans ?_), h3.trans ((val_main_v13_eq _ _).trans ?_), hrest⟩
    · rw [a0, a1]
    · rw [a0, a1]

end Cert.FfnIn
end
-- ==== Proof.FfnOut.lean ====
module

public import proofs.«01_k».proof.Proof.Gen.Kernel11Ideal.Value
public import proofs.«01_k».proof.Proof.Gen.Reference11Ideal.Read
public import proofs.«01_k».proof.Proof.Gen.Reference11Ideal.Run
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.FfnOut

open Cert.Kernel11Ideal Cert.Kernel11Ideal.Gen

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![t.val, 0] :=
  (by decide +kernel : ∀ t : Fin grid0.N, _)

theorem row_lt (t : Fin cfg0.N) (p : Fin 512) : t.val * 512 + (p : ℕ) < 8192 := by
  have := lt_of_lt_of_eq t.isLt N_0
  omega

open Cert.Reference11Ideal.Read in
/-- the error of a row -/
theorem err (c : Dev nD) (t : Fin cfg0.N) (p : Fin 512) (q : Fin 1024) (r : Fin 8192) (hr : (r : ℕ) = t.val * 512 + (p : ℕ)) :
    k0_pay1 (F := Ideal) (iblk m c 2 t) (iblk m c 0 t) (iblk m c 1 t) (iblk m c 3 t) (ix2 p q) = val_main_v4 (F := Ideal) (m ((c : Thread nD τ).loc main_arg0)) (m ((c : Thread nD τ).loc main_arg1)) (m ((c : Thread nD τ).loc main_arg2)) (m ((c : Thread nD τ).loc main_arg3)) (ix2 r q) := by
  pointwise [k0_pay1, val_main_v0, val_main_v1, val_main_v2, val_main_v3, val_main_v4]
  blk_point [iblk, V_main_arg0, V_main_arg1, V_main_arg2, V_main_arg3, idx t]

/-- the scale of the cotangent, as the derivative of the loss leaves it -/
theorem scale (e : EReal) : e * Ideal.ofBits FTy.f32 0x3A800000#32
    = Ideal.div (Ideal.ofBits FTy.f32 0x3F000000#32) (Ideal.ofBits FTy.f32 0x44800000#32) * (Ideal.ofBits FTy.f32 0x40000000#32 * e) := by
  have a : Ideal.ofBits FTy.f32 0x3A800000#32 = ((1 / 1024 : ℝ) : EReal) := by
    norm_num [Ideal.ofBits, Ideal.ieee, BitVec.extractLsb', Nat.shiftRight_eq_div_pow]
  have b : Ideal.ofBits FTy.f32 0x3F000000#32 = ((1 / 2 : ℝ) : EReal) := by
    norm_num [Ideal.ofBits, Ideal.ieee, BitVec.extractLsb', Nat.shiftRight_eq_div_pow]
  have d : Ideal.ofBits FTy.f32 0x44800000#32 = ((1024 : ℝ) : EReal) := by
    norm_num [Ideal.ofBits, Ideal.ieee, BitVec.extractLsb', Nat.shiftRight_eq_div_pow]
  have f : Ideal.ofBits FTy.f32 0x40000000#32 = ((2 : ℝ) : EReal) := by
    norm_num [Ideal.ofBits, Ideal.ieee, BitVec.extractLsb', Nat.shiftRight_eq_div_pow]
  have hd : ((1024 : ℝ) : EReal) ≠ 0 := by exact_mod_cast (by norm_num : (1024 : ℝ) ≠ 0)
  rw [a, b, d, f]
  unfold Ideal.div
  rw [if_neg hd, ← EReal.coe_inv, ← EReal.coe_mul, ← mul_assoc, ← EReal.coe_mul, mul_comm]
  norm_num

open Cert.Reference11Ideal.Read in
/-- its cotangent -/
theorem cot (c : Dev nD) (t : Fin cfg0.N) (p : Fin 512) (q : Fin 1024) (r : Fin 8192) (hr : (r : ℕ) = t.val * 512 + (p : ℕ)) :
    k0_pay4 (F := Ideal) (iblk m c 2 t) (iblk m c 0 t) (iblk m c 1 t) (iblk m c 3 t) (ix2 p q) = val_main_v21 (F := Ideal) (m ((c : Thread nD τ).loc main_arg0)) (m ((c : Thread nD τ).loc main_arg1)) (m ((c : Thread nD τ).loc main_arg2)) (m ((c : Thread nD τ).loc main_arg3)) (ix2 r q) := by
  pointwise [k0_pay4, val_main_v15, val_main_v16, val_main_v17, val_main_v18, val_main_v19, val_main_v20, val_main_v21, val_main_v9, val_main_v10, val_main_cst_0, val_main_cst_5, val_main_cst_6, val_main_cst_7]
  refine (congrArg (fun z : EReal => z * _) (err m c t p q r hr)).trans ?_
  exact scale _

theorem hzero (j : S8x128.Idx) : k0_pay2 (F := Ideal) j = 0 := by
  pointwise [k0_pay2]

/-- one block's share of the sum of squares -/
def share (a : Vec Ideal S512x1024 .f32) (b : Vec Ideal S512x2816 .bf16) (d : Vec Ideal S2816x1024 .bf16) (e : Vec Ideal S512x1024 .f32) (p : Fin 512) : EReal :=
  ∑ q : Fin 1024, k0_pay1 (F := Ideal) a b d e (ix2 p q) * k0_pay1 (F := Ideal) a b d e (ix2 p q)

theorem hpay (a : Vec Ideal S512x1024 .f32) (b : Vec Ideal S512x2816 .bf16) (d : Vec Ideal S2816x1024 .bf16) (e : Vec Ideal S512x1024 .f32) (X : Vec Ideal S8x128 .f32) (j : S8x128.Idx) :
    k0_pay3 (F := Ideal) a b d e X j = X j + ∑ p : Fin 512, share a b d e p := by
  unfold share
  pointwise [k0_pay3]

open Cert.Reference11Ideal.Read in
/-- a row's share of it, as the reference sums it -/
theorem row (c : Dev nD) (t : Fin cfg0.N) (p : Fin 512) (r : Fin 8192) (hr : (r : ℕ) = t.val * 512 + (p : ℕ)) :
    share (iblk m c 2 t) (iblk m c 0 t) (iblk m c 1 t) (iblk m c 3 t) p = ∑ q : Fin 1024, val_main_v4 (F := Ideal) (m ((c : Thread nD τ).loc main_arg0)) (m ((c : Thread nD τ).loc main_arg1)) (m ((c : Thread nD τ).loc main_arg2)) (m ((c : Thread nD τ).loc main_arg3)) (ix2 r q) * val_main_v4 (F := Ideal) (m ((c : Thread nD τ).loc main_arg0)) (m ((c : Thread nD τ).loc main_arg1)) (m ((c : Thread nD τ).loc main_arg2)) (m ((c : Thread nD τ).loc main_arg3)) (ix2 r q) := by
  unfold share
  refine Finset.sum_congr rfl fun q _ => ?_
  rw [err m c t p q r hr]

open Cert.Reference11Ideal.Read in
theorem final4 (c : Dev nD) : (dats m 0 c).arrAt 4 cfg0.N = val_main_v22 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_after_last 4 t0_15 (by decide +kernel) _ fun j => ?_
  blk_simp
  rw [after0_4, Pipeline.eq_sum_fin_of_reset_step_apply_last (fun n h => (outsAt0 m c n h).1) 16 (fun _ => 0) _
    (fun t h j => by rw [outsAt0_A m c t h]; frame_out; rw [hpay, hzero])
    (fun t h j => by rw [outsAt0_B m c t h]; frame_out; rw [hpay]) (le_of_eq N_0) t0_15 rfl _, zero_add]
  idx_vars j
  pointwise [val_main_v22, val_main_v6, val_main_v5, val_main_cst]
  refine Fin.sum_mul_add_congr fun t k hl => ?_
  exact row m c _ k ⟨_, hl⟩ rfl

open Cert.Reference11Ideal.Read in
theorem final5 (c : Dev nD) : (dats m 0 c).arrAt 5 cfg0.N = val_main_v21 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  idx_vars y
  have core : (outsAt0 m c t.val t.isLt).2.1 (ix2 y0 y1) = k0_pay4 (F := Ideal) (iblk m c 2 t) (iblk m c 0 t) (iblk m c 1 t) (iblk m c 3 t) (ix2 y0 y1) := by
    by_cases h : t.val % 16 = 0
    · rw [outsAt0_A m c t h]; frame_out
    · rw [outsAt0_B m c t h]; frame_out
  refine core.trans ((cot m c t y0 y1 ⟨t.val * 512 + y0.val, row_lt t y0⟩ rfl).trans ?_)

  blk_point [idx t]

open Cert.Reference11Ideal.Read in
theorem final6 (c : Dev nD) : (dats m 0 c).arrAt 6 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  idx_vars y
  have core : (outsAt0 m c t.val t.isLt).2.2 (ix2 y0 y1) = k0_pay4 (F := Ideal) (iblk m c 2 t) (iblk m c 0 t) (iblk m c 1 t) (iblk m c 3 t) (ix2 y0 y1) := by
    by_cases h : t.val % 16 = 0
    · rw [outsAt0_A m c t h]; frame_out; pointwise [k0_pay5]
    · rw [outsAt0_B m c t h]; frame_out; pointwise [k0_pay5]
  refine core.trans ((cot m c t y0 y1 ⟨t.val * 512 + y0.val, row_lt t y0⟩ rfl).trans ?_)
  pointwise [val_main_v23]
  blk_point [idx t]

open Cert.Reference11Ideal.Read in
/-- the program's results are the reference's -/
theorem algebraic : Cert.algebraic_Kernel11Ideal_Reference11Ideal := by
  intro m g m' g' _ hagree
  refine ⟨fun c => val_main_v22 (F := Ideal) (m ((c : Thread nD τ).loc main_arg0)) (m ((c : Thread nD τ).loc main_arg1)) (m ((c : Thread nD τ).loc main_arg2)) (m ((c : Thread nD τ).loc main_arg3)),
    fun c => val_main_v21 (F := Ideal) (m ((c : Thread nD τ).loc main_arg0)) (m ((c : Thread nD τ).loc main_arg1)) (m ((c : Thread nD τ).loc main_arg2)) (m ((c : Thread nD τ).loc main_arg3)),
    fun c => val_main_v23 (F := Ideal) (m ((c : Thread nD τ).loc main_arg0)) (m ((c : Thread nD τ).loc main_arg1)) (m ((c : Thread nD τ).loc main_arg2)) (m ((c : Thread nD τ).loc main_arg3)), ?_, ?_⟩
  · refine (θ_run _ _ _).mono (fun r h c => ?_) (Cert.Kernel11Ideal.Value.run_blocks m g)
    obtain ⟨h4, h5, h6, hrest⟩ := h c
    exact ⟨h4.trans (final4 m c), h5.trans (final5 m c), h6.trans (final6 m c), hrest⟩
  · refine (θ_run _ _ _).mono (fun r h c => ?_) (Cert.Reference11Ideal.Value.run m' g')
    obtain ⟨h4, h5, h6, hrest⟩ := h c
    obtain ⟨a0, a1, a2, a3⟩ := hagree c
    refine ⟨h4.trans ((val_main_v22_eq _ _ _ _).trans ?_), h5.trans ((val_main_v21_eq _ _ _ _).trans ?_), h6.trans ((val_main_v23_eq _ _ _ _).trans ?_), hrest⟩
    · rw [a0, a1, a2, a3]
    · rw [a0, a1, a2, a3]
    · rw [a0, a1, a2, a3]

end Cert.FfnOut
end
-- ==== Proof.AdamwSmall.lean ====
module

public import proofs.«01_k».proof.Proof.Gen.Kernel14Ideal.Value
public import proofs.«01_k».proof.Proof.Gen.Reference14Ideal.Read
public import proofs.«01_k».proof.Proof.Gen.Reference14Ideal.Run
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.AdamwSmall

open Cert.Kernel14Ideal Cert.Kernel14Ideal.Gen

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

theorem rd0 (c : Dev nD) (t : Fin cfg0.N) (p : Fin 48) (q : Fin 128) : iblk m c 0 t (ix2 p q) = m ((c : Thread nD τ).loc main_arg0) (ix2 p q) := by
  blk_point [iblk, V_main_arg0, idx t]

theorem rd1 (c : Dev nD) (t : Fin cfg0.N) (p : Fin 48) (q : Fin 128) : iblk m c 1 t (ix2 p q) = m ((c : Thread nD τ).loc main_arg1) (ix2 p q) := by
  blk_point [iblk, V_main_arg1, idx t]

theorem rd2 (c : Dev nD) (t : Fin cfg0.N) (p : Fin 48) (q : Fin 128) : iblk m c 2 t (ix2 p q) = m ((c : Thread nD τ).loc main_arg2) (ix2 p q) := by
  blk_point [iblk, V_main_arg2, idx t]

theorem rd3 (c : Dev nD) (t : Fin cfg0.N) (p : Fin 48) (q : Fin 128) : iblk m c 3 t (ix2 p q) = m ((c : Thread nD τ).loc main_arg3) (ix2 p q) := by
  blk_point [iblk, V_main_arg3, idx t]

open Cert.Reference14Ideal.Read in
theorem final4 (c : Dev nD) : (dats m 0 c).arrAt 4 cfg0.N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold out0_4
  frame_out
  idx_vars y
  refine Eq.trans (b := val_main_v23 (F := Ideal) (m ((c : Thread nD τ).loc main_arg0)) (m ((c : Thread nD τ).loc main_arg1)) (m ((c : Thread nD τ).loc main_arg2)) (m ((c : Thread nD τ).loc main_arg3)) (ix2 y0 y1)) ?_ (congrArg (val_main_v23 (F := Ideal) (m ((c : Thread nD τ).loc main_arg0)) (m ((c : Thread nD τ).loc main_arg1)) (m ((c : Thread nD τ).loc main_arg2)) (m ((c : Thread nD τ).loc main_arg3))) (by blk_ext [idx t]))
  pointwise [k0_pay3, k0_pay2, k0_pay1, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rw [rd0 m c t y0 y1, rd1 m c t y0 y1, rd2 m c t y0 y1, rd3 m c t y0 y1]

open Cert.Reference14Ideal.Read in
theorem final5 (c : Dev nD) : (dats m 0 c).arrAt 5 cfg0.N = val_main_v4 (F := Ideal) (m ((c : Thread nD τ).loc main_arg0)) (m ((c : Thread nD τ).loc main_arg2)) := by
  refine (dats m 0 c).arrAt_eq_of_covers 5 _ (by decide +kernel) fun t hf y => ?_
  blk_simp
  rw [after0_5]
  unfold out0_5
  frame_out
  idx_vars y
  refine Eq.trans (b := val_main_v4 (F := Ideal) (m ((c : Thread nD τ).loc main_arg0)) (m ((c : Thread nD τ).loc main_arg2)) (ix2 y0 y1)) ?_ (congrArg (val_main_v4 (F := Ideal) (m ((c : Thread nD τ).loc main_arg0)) (m ((c : Thread nD τ).loc main_arg2))) (by blk_ext [idx t]))
  pointwise [k0_pay3, k0_pay2, k0_pay1, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rw [rd0 m c t y0 y1, rd2 m c t y0 y1]

open Cert.Reference14Ideal.Read in
theorem final6 (c : Dev nD) : (dats m 0 c).arrAt 6 cfg0.N = val_main_v10 (F := Ideal) (m ((c : Thread nD τ).loc main_arg0)) (m ((c : Thread nD τ).loc main_arg3)) := by
  refine (dats m 0 c).arrAt_eq_of_covers 6 _ (by decide +kernel) fun t hf y => ?_
  blk_simp
  rw [after0_6]
  unfold out0_6
  frame_out
  idx_vars y
  refine Eq.trans (b := val_main_v10 (F := Ideal) (m ((c : Thread nD τ).loc main_arg0)) (m ((c : Thread nD τ).loc main_arg3)) (ix2 y0 y1)) ?_ (congrArg (val_main_v10 (F := Ideal) (m ((c : Thread nD τ).loc main_arg0)) (m ((c : Thread nD τ).loc main_arg3))) (by blk_ext [idx t]))
  pointwise [k0_pay3, k0_pay2, k0_pay1, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rw [rd0 m c t y0 y1, rd3 m c t y0 y1]

open Cert.Reference14Ideal.Read in
/-- the program's results are the reference's -/
theorem algebraic : Cert.algebraic_Kernel14Ideal_Reference14Ideal := by
  intro m g m' g' _ hagree
  refine ⟨fun c => val_main_v23 (F := Ideal) (m ((c : Thread nD τ).loc main_arg0)) (m ((c : Thread nD τ).loc main_arg1)) (m ((c : Thread nD τ).loc main_arg2)) (m ((c : Thread nD τ).loc main_arg3)),
    fun c => val_main_v4 (F := Ideal) (m ((c : Thread nD τ).loc main_arg0)) (m ((c : Thread nD τ).loc main_arg2)),
    fun c => val_main_v10 (F := Ideal) (m ((c : Thread nD τ).loc main_arg0)) (m ((c : Thread nD τ).loc main_arg3)), ?_, ?_⟩
  · refine (θ_run _ _ _).mono (fun r h c => ?_) (Cert.Kernel14Ideal.Value.run_blocks m g)
    obtain ⟨h4, h5, h6, hrest⟩ := h c
    exact ⟨h4.trans (final4 m c), h5.trans (final5 m c), h6.trans (final6 m c), hrest⟩
  · refine (θ_run _ _ _).mono (fun r h c => ?_) (Cert.Reference14Ideal.Value.run m' g')
    obtain ⟨h4, h5, h6, hrest⟩ := h c
    obtain ⟨a0, a1, a2, a3⟩ := hagree c
    refine ⟨h4.trans ((val_main_v23_eq _ _ _ _).trans ?_), h5.trans ((val_main_v4_eq _ _).trans ?_), h6.trans ((val_main_v10_eq _ _).trans ?_), hrest⟩
    · rw [a0, a1, a2, a3]
    · rw [a0, a2]
    · rw [a0, a3]

end Cert.AdamwSmall
end
-- ==== Proof.AdamwConvW.lean ====
module

public import proofs.«01_k».proof.Proof.Gen.Kernel15Ideal.Value
public import proofs.«01_k».proof.Proof.Gen.Reference15Ideal.Read
public import proofs.«01_k».proof.Proof.Gen.Reference15Ideal.Run
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.AdamwConvW

open Cert.Kernel15Ideal Cert.Kernel15Ideal.Gen

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

theorem rd0 (c : Dev nD) (t : Fin cfg0.N) (p : Fin 31) (q : Fin 128) : iblk m c 0 t (ix2 p q) = m ((c : Thread nD τ).loc main_arg0) (ix3 p 0 q) := by
  blk_point [iblk, V, idx t]

theorem rd1 (c : Dev nD) (t : Fin cfg0.N) (p : Fin 31) (q : Fin 128) : iblk m c 1 t (ix2 p q) = m ((c : Thread nD τ).loc main_arg1) (ix3 p 0 q) := by
  blk_point [iblk, V, idx t]

theorem rd2 (c : Dev nD) (t : Fin cfg0.N) (p : Fin 31) (q : Fin 128) : iblk m c 2 t (ix2 p q) = m ((c : Thread nD τ).loc main_arg2) (ix3 p 0 q) := by
  blk_point [iblk, V, idx t]

theorem rd3 (c : Dev nD) (t : Fin cfg0.N) (p : Fin 31) (q : Fin 128) : iblk m c 3 t (ix2 p q) = m ((c : Thread nD τ).loc main_arg3) (ix3 p 0 q) := by
  blk_point [iblk, V, idx t]

open Cert.Reference15Ideal.Read in
theorem final4 (c : Dev nD) : (dats m 0 c).arrAt 4 cfg0.N = val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold out0_4
  frame_out
  idx_vars y
  refine Eq.trans (b := val_main_v24 (F := Ideal) (m ((c : Thread nD τ).loc main_arg0)) (m ((c : Thread nD τ).loc main_arg1)) (m ((c : Thread nD τ).loc main_arg2)) (m ((c : Thread nD τ).loc main_arg3)) (ix2 y0 y1)) ?_ (congrArg (val_main_v24 (F := Ideal) (m ((c : Thread nD τ).loc main_arg0)) (m ((c : Thread nD τ).loc main_arg1)) (m ((c : Thread nD τ).loc main_arg2)) (m ((c : Thread nD τ).loc main_arg3))) (by blk_ext [idx t]))
  pointwise [k0_pay4, k0_pay3, k0_pay2, k0_pay1, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rw [rd0 m c t y0 y1, rd1 m c t y0 y1, rd2 m c t y0 y1, rd3 m c t y0 y1]

open Cert.Reference15Ideal.Read in
theorem final5 (c : Dev nD) : (dats m 0 c).arrAt 5 cfg0.N = val_main_v25 (F := Ideal) (m ((c : Thread nD τ).loc main_arg0)) (m ((c : Thread nD τ).loc main_arg2)) := by
  refine (dats m 0 c).arrAt_eq_of_covers 5 _ (by decide +kernel) fun t hf y => ?_
  blk_simp
  rw [after0_5]
  unfold out0_5
  frame_out
  idx_vars y
  refine Eq.trans (b := val_main_v25 (F := Ideal) (m ((c : Thread nD τ).loc main_arg0)) (m ((c : Thread nD τ).loc main_arg2)) (ix2 y0 y1)) ?_ (congrArg (val_main_v25 (F := Ideal) (m ((c : Thread nD τ).loc main_arg0)) (m ((c : Thread nD τ).loc main_arg2))) (by blk_ext [idx t]))
  pointwise [k0_pay4, k0_pay3, k0_pay2, k0_pay1, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rw [rd0 m c t y0 y1, rd2 m c t y0 y1]

open Cert.Reference15Ideal.Read in
theorem final6 (c : Dev nD) : (dats m 0 c).arrAt 6 cfg0.N = val_main_v26 (F := Ideal) (m ((c : Thread nD τ).loc main_arg0)) (m ((c : Thread nD τ).loc main_arg3)) := by
  refine (dats m 0 c).arrAt_eq_of_covers 6 _ (by decide +kernel) fun t hf y => ?_
  blk_simp
  rw [after0_6]
  unfold out0_6
  frame_out
  idx_vars y
  refine Eq.trans (b := val_main_v26 (F := Ideal) (m ((c : Thread nD τ).loc main_arg0)) (m ((c : Thread nD τ).loc main_arg3)) (ix2 y0 y1)) ?_ (congrArg (val_main_v26 (F := Ideal) (m ((c : Thread nD τ).loc main_arg0)) (m ((c : Thread nD τ).loc main_arg3))) (by blk_ext [idx t]))
  pointwise [k0_pay4, k0_pay3, k0_pay2, k0_pay1, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]
  rw [rd0 m c t y0 y1, rd3 m c t y0 y1]

open Cert.Reference15Ideal.Read in
/-- the program's results are the reference's -/
theorem algebraic : Cert.algebraic_Kernel15Ideal_Reference15Ideal := by
  intro m g m' g' _ hagree
  refine ⟨fun c => val_main_v24 (F := Ideal) (m ((c : Thread nD τ).loc main_arg0)) (m ((c : Thread nD τ).loc main_arg1)) (m ((c : Thread nD τ).loc main_arg2)) (m ((c : Thread nD τ).loc main_arg3)),
    fun c => val_main_v25 (F := Ideal) (m ((c : Thread nD τ).loc main_arg0)) (m ((c : Thread nD τ).loc main_arg2)),
    fun c => val_main_v26 (F := Ideal) (m ((c : Thread nD τ).loc main_arg0)) (m ((c : Thread nD τ).loc main_arg3)), ?_, ?_⟩
  · refine (θ_run _ _ _).mono (fun r h c => ?_) (Cert.Kernel15Ideal.Value.run_blocks m g)
    obtain ⟨h4, h5, h6, hrest⟩ := h c
    exact ⟨h4.trans (final4 m c), h5.trans (final5 m c), h6.trans (final6 m c), hrest⟩
  · refine (θ_run _ _ _).mono (fun r h c => ?_) (Cert.Reference15Ideal.Value.run m' g')
    obtain ⟨h4, h5, h6, hrest⟩ := h c
    obtain ⟨a0, a1, a2, a3⟩ := hagree c
    refine ⟨h4.trans ((val_main_v24_eq _ _ _ _).trans ?_), h5.trans ((val_main_v25_eq _ _).trans ?_), h6.trans ((val_main_v26_eq _ _).trans ?_), hrest⟩
    · rw [a0, a1, a2, a3]
    · rw [a0, a2]
    · rw [a0, a3]

end Cert.AdamwConvW
end
-- ==== Proof.OwnAndOthers.lean ====
module

public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OwnAndOthers

/-- the device's number, from its three mesh coordinates -/
abbrev me (c : Fin 8) : BitVec 32 :=
  Scalar.addi (Scalar.addi (Scalar.muli 4#32 (Scalar.remsi (Scalar.divsi (BitVec.ofNat 32 c.val) 4#32) 2#32))
    (Scalar.muli 2#32 (Scalar.remsi (Scalar.divsi (BitVec.ofNat 32 c.val) 2#32) 2#32))) (Scalar.remsi (Scalar.divsi (BitVec.ofNat 32 c.val) 1#32) 2#32)

theorem me_eq : ∀ c k : Fin 8, Scalar.cmpi .eq (me c) (BitVec.ofNat 32 k.val) = if k = c then 1#1 else 0#1 := by decide

theorem pick (c k : Fin 8) (a b : EReal) : Scalar.select (Scalar.cmpi .eq (me c) (BitVec.ofNat 32 k.val)) a b = if k = c then a else b := by
  rw [me_eq]; split <;> rfl

theorem same_eq : ∀ c k : Fin 8, Scalar.cmpi .eq (BitVec.ofNat 32 k.val) (BitVec.ofNat 32 c.val) = if k = c then 1#1 else 0#1 := by decide

/-- one of the others' parts -/
theorem other (c k : Fin 8) (a b : EReal) : Scalar.select (Scalar.cmpi .eq (BitVec.ofNat 32 k.val) (BitVec.ofNat 32 c.val)) a b = if k = c then a else b := by
  rw [same_eq]; split <;> rfl

/-- the kernel's order of adding the eight parts, its own one from its own array -/
theorem total (c : Fin 8) (own : EReal) (p : Fin 8 → EReal) :
    Scalar.select (Scalar.cmpi .eq (me c) 0#32) own (p 0) + Scalar.select (Scalar.cmpi .eq (me c) 1#32) own (p 1)
      + Scalar.select (Scalar.cmpi .eq (me c) 2#32) own (p 2) + Scalar.select (Scalar.cmpi .eq (me c) 3#32) own (p 3)
      + Scalar.select (Scalar.cmpi .eq (me c) 4#32) own (p 4) + Scalar.select (Scalar.cmpi .eq (me c) 5#32) own (p 5)
      + Scalar.select (Scalar.cmpi .eq (me c) 6#32) own (p 6) + Scalar.select (Scalar.cmpi .eq (me c) 7#32) own (p 7)
      = own + ∑ s, if s = c then 0 else p s := by
  have h : ∀ s : Fin 8, Scalar.select (Scalar.cmpi .eq (me c) (BitVec.ofNat 32 s.val)) own (p s)
      = (if s = c then own else 0) + (if s = c then 0 else p s) := by
    intro s; rw [pick]; split
    · exact (add_zero own).symm
    · exact (zero_add (p s)).symm
  have e : ∑ s : Fin 8, Scalar.select (Scalar.cmpi .eq (me c) (BitVec.ofNat 32 s.val)) own (p s)
      = own + ∑ s, if s = c then 0 else p s := by
    rw [Finset.sum_congr rfl fun s _ => h s, Finset.sum_add_distrib, Finset.sum_ite_eq' Finset.univ c, if_pos (Finset.mem_univ c)]
  rw [← e, Fin.sum_univ_eight]; rfl

end Cert.OwnAndOthers
end
-- ==== Proof.AdamwSum.lean ====
module

public import proofs.«01_k».proof.Proof.OwnAndOthers
public import proofs.«01_k».proof.Proof.Gen.Kernel16Ideal.Value
public import proofs.«01_k».proof.Proof.Gen.Reference16Ideal.Read
public import proofs.«01_k».proof.Proof.Gen.Reference16Ideal.Run
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.AdamwSum

open Cert.OwnAndOthers Cert.Kernel16Ideal Cert.Kernel16Ideal.Gen

variable (m : (ℓ : Loc nD τ sig) → Buf (Elt Ideal) ℓ)
variable (x0 : (⟨Cert.Reference16Ideal.S8x1024x1024, .bf16⟩ : BufTy).Contents (Elt Ideal)) (x1 : (⟨Cert.Reference16Ideal.S1024x1024, .bf16⟩ : BufTy).Contents (Elt Ideal))
  (x2 x3 x4 : (⟨Cert.Reference16Ideal.S1024x1024, .f32⟩ : BufTy).Contents (Elt Ideal))

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] :=
  (by decide +kernel : ∀ t : Fin grid0.N, _)

theorem row_lt (t : Fin cfg0.N) (y : Fin 128) : t.val * 128 + y.val < 128 := by
  have h : t.val < 1 := lt_of_lt_of_eq t.isLt N_0
  omega

open Cert.Reference16Ideal.Read in
theorem holder : ∀ r : Fin 1024, Cert.Reference16Ideal.Read.val_main_v4 (F := Ideal) (ix1 r) = BitVec.ofNat 32 (r.val / 128) := by
  have h : ∀ r : Fin 1024, IntOp.divsi ArithUnit.host (BitVec.ofNat 32 r.val) (BitVec.ofNat 32 128) = BitVec.ofNat 32 (r.val / 128) := by decide +kernel
  intro r
  pointwise [val_main_v4, val_main_v3, val_main_v2, val_main_c]
  exact h r

open Cert.Reference16Ideal.Read in
/-- the whole gradient at one row: the part of the device that holds the row, and the others' -/
theorem grad (c : Fin 8) (r : Fin 1024) (q : Fin 1024) (hc : r.val / 128 = c.val) :
    val_main_v13 (F := Ideal) x0 x1 (ix2 r q) = x1 (ix2 r q) + ∑ s : Fin 8, if s = c then 0 else x0 (ix3 s r q) := by
  pointwise [val_main_v13, val_main_v12, val_main_v11, val_main_v10, val_main_v9, val_main_v8, val_main_v7, val_main_v6, val_main_v5, val_main_v1, val_main_v0, val_main_call0_v2, val_main_call0_v1, val_main_call0_v0, val_main_cst, val_main_cst_0]
  refine congrArg (fun z : EReal => x1 (ix2 r q) + z) (Finset.sum_congr rfl fun s _ => ?_)
  rw [holder, hc]
  refine (other c s _ _).trans ?_
  split
  · simp only [id_eq]; pointwise []
  · rfl

/-- what device `c` holds of the whole arrays -/
structure Held (c : Dev nD) : Prop where
  h0 : m ((c : Thread nD τ).loc main_arg0) = Layout.block ⟨3, ![8, 128, 1024]⟩ ⟨3, ![8, 1024, 1024]⟩ 1 8 c x0
  h1 : m ((c : Thread nD τ).loc main_arg1) = Layout.block ⟨2, ![128, 1024]⟩ ⟨2, ![1024, 1024]⟩ 0 8 c x1
  h2 : m ((c : Thread nD τ).loc main_arg2) = Layout.block ⟨2, ![128, 1024]⟩ ⟨2, ![1024, 1024]⟩ 0 8 c x2
  h3 : m ((c : Thread nD τ).loc main_arg3) = Layout.block ⟨2, ![128, 1024]⟩ ⟨2, ![1024, 1024]⟩ 0 8 c x3
  h4 : m ((c : Thread nD τ).loc main_arg4) = Layout.block ⟨2, ![128, 1024]⟩ ⟨2, ![1024, 1024]⟩ 0 8 c x4

variable {m x0 x1 x2 x3 x4}

theorem rd0 {c : Dev nD} (H : Held m x0 x1 x2 x3 x4 c) (t : Fin cfg0.N) (s : Fin 8) (p : Fin 128) (q : Fin 1024) (r : Fin 1024)
    (hr : r.val = c.val * 128 + (t.val * 128 + p.val)) : iblk m c 0 t (ix3 s p q) = x0 (ix3 s r q) := by
  have e : iblk m c 0 t (ix3 s p q) = m ((c : Thread nD τ).loc main_arg0) (ix3 s ⟨t.val * 128 + p.val, row_lt t p⟩ q) := by
    blk_point [iblk, V_main_arg0, idx t]
  rw [e, H.h0, Layout.block_apply]
  refine congrArg x0 (funext fun a => Fin.ext ?_)
  fin_cases a
  · rfl
  · exact hr.symm
  · rfl

theorem rd1 {c : Dev nD} (H : Held m x0 x1 x2 x3 x4 c) (t : Fin cfg0.N) (p : Fin 128) (q : Fin 1024) (r : Fin 1024)
    (hr : r.val = c.val * 128 + (t.val * 128 + p.val)) : iblk m c 1 t (ix2 p q) = x1 (ix2 r q) := by
  have e : iblk m c 1 t (ix2 p q) = m ((c : Thread nD τ).loc main_arg1) (ix2 ⟨t.val * 128 + p.val, row_lt t p⟩ q) := by
    blk_point [iblk, V_main_arg1, idx t]
  rw [e, H.h1, Layout.block_apply]
  refine congrArg x1 (funext fun a => Fin.ext ?_)
  fin_cases a
  · exact hr.symm
  · rfl

theorem rd2 {c : Dev nD} (H : Held m x0 x1 x2 x3 x4 c) (t : Fin cfg0.N) (p : Fin 128) (q : Fin 1024) (r : Fin 1024)
    (hr : r.val = c.val * 128 + (t.val * 128 + p.val)) : iblk m c 2 t (ix2 p q) = x2 (ix2 r q) := by
  have e : iblk m c 2 t (ix2 p q) = m ((c : Thread nD τ).loc main_arg2) (ix2 ⟨t.val * 128 + p.val, row_lt t p⟩ q) := by
    blk_point [iblk, V_main_arg2, idx t]
  rw [e, H.h2, Layout.block_apply]
  refine congrArg x2 (funext fun a => Fin.ext ?_)
  fin_cases a
  · exact hr.symm
  · rfl

theorem rd3 {c : Dev nD} (H : Held m x0 x1 x2 x3 x4 c) (t : Fin cfg0.N) (p : Fin 128) (q : Fin 1024) (r : Fin 1024)
    (hr : r.val = c.val * 128 + (t.val * 128 + p.val)) : iblk m c 3 t (ix2 p q) = x3 (ix2 r q) := by
  have e : iblk m c 3 t (ix2 p q) = m ((c : Thread nD τ).loc main_arg3) (ix2 ⟨t.val * 128 + p.val, row_lt t p⟩ q) := by
    blk_point [iblk, V_main_arg3, idx t]
  rw [e, H.h3, Layout.block_apply]
  refine congrArg x3 (funext fun a => Fin.ext ?_)
  fin_cases a
  · exact hr.symm
  · rfl

theorem rd4 {c : Dev nD} (H : Held m x0 x1 x2 x3 x4 c) (t : Fin cfg0.N) (p : Fin 128) (q : Fin 1024) (r : Fin 1024)
    (hr : r.val = c.val * 128 + (t.val * 128 + p.val)) : iblk m c 4 t (ix2 p q) = x4 (ix2 r q) := by
  have e : iblk m c 4 t (ix2 p q) = m ((c : Thread nD τ).loc main_arg4) (ix2 ⟨t.val * 128 + p.val, row_lt t p⟩ q) := by
    blk_point [iblk, V_main_arg4, idx t]
  rw [e, H.h4, Layout.block_apply]
  refine congrArg x4 (funext fun a => Fin.ext ?_)
  fin_cases a
  · exact hr.symm
  · rfl

theorem out_row (c : Dev nD) (t : Fin cfg0.N) (y : Fin 128) : c.val * 128 + (t.val * 128 + y.val) < 1024 := by
  have h := row_lt t y
  have hc : c.val < 8 := c.isLt
  omega

open Cert.Reference16Ideal.Read in
/-- the gradient the kernel adds up, at one row of its block -/
theorem summed {c : Dev nD} (H : Held m x0 x1 x2 x3 x4 c) (t : Fin cfg0.N) (p : Fin 128) (q : Fin 1024) (r : Fin 1024)
    (hr : r.val = c.val * 128 + (t.val * 128 + p.val)) :
    (outsAt0 m c t).1 (ix2 p q) = val_main_v13 (F := Ideal) x0 x1 (ix2 r q) := by
  unfold outsAt0
  frame_out
  pointwise [k0_pay7, k0_pay6, k0_pay5, k0_pay4, k0_pay3, k0_pay2]
  refine (total c _ (fun s => iblk m c 0 t (ix3 s p q))).trans ?_
  have h := row_lt t p
  rw [rd1 H t p q r hr, grad x0 x1 c r q (by omega)]
  refine congrArg (fun z : EReal => x1 (ix2 r q) + z) (Finset.sum_congr rfl fun s _ => ?_)
  rw [rd0 H t s p q r hr]

section
variable {p : Fin 128} {q : Fin 1024} {r : Fin 1024} (v12 : BitVec 32) (v61 : FVec Ideal S128x1024 .f32) (v62 : BitVec 1) (v64 : FVec Ideal S128x1024 .bf16) (v66 : FVec Ideal S128x1024 .bf16) (v71 : Vec Ideal S128x1024 .bf16) (v73 : Vec Ideal S1x128x1024 .bf16)
  (g : k0_pay7 v12 v61 v62 v64 v66 v71 v73 (ix2 p q) = Cert.Reference16Ideal.Read.val_main_v13 (F := Ideal) x0 x1 (ix2 r q))
include g

open Cert.Reference16Ideal.Read in
theorem mean (v81 : Vec Ideal S128x1024 .f32) (h : v81 (ix2 p q) = x3 (ix2 r q)) :
    k0_pay9 v12 v61 v62 v64 v66 v71 v73 v81 (ix2 p q) = val_main_v18 (F := Ideal) x0 x1 x3 (ix2 r q) := by
  pointwise [k0_pay9, val_main_v18, val_main_v17, val_main_v16, val_main_v15, val_main_v14, val_main_cst_1, val_main_cst_2, val_main_cst_3, val_main_cst_4, val_main_cst_5, val_main_cst_6, val_main_cst_7, val_main_cst_8, val_main_cst_9]
  rw [g, h]

open Cert.Reference16Ideal.Read in
theorem square (v83 : Vec Ideal S128x1024 .f32) (h : v83 (ix2 p q) = x4 (ix2 r q)) :
    k0_pay10 v12 v61 v62 v64 v66 v71 v73 v83 (ix2 p q) = val_main_v24 (F := Ideal) x0 x1 x4 (ix2 r q) := by
  pointwise [k0_pay10, val_main_v24, val_main_v23, val_main_v22, val_main_v21, val_main_v20, val_main_v19, val_main_cst_1, val_main_cst_2, val_main_cst_3, val_main_cst_4, val_main_cst_5, val_main_cst_6, val_main_cst_7, val_main_cst_8, val_main_cst_9]
  rw [g, h]

open Cert.Reference16Ideal.Read in
theorem step (v79 v81 v83 : Vec Ideal S128x1024 .f32) (h2 : v79 (ix2 p q) = x2 (ix2 r q)) (h3 : v81 (ix2 p q) = x3 (ix2 r q)) (h4 : v83 (ix2 p q) = x4 (ix2 r q)) :
    k0_pay1 (k0_pay8 v79) (k0_pay11 v12 v61 v62 v64 v66 v71 v73 v81 v83) (Scalar.ofBits .f32 0x3C23D70A#32) (ix2 p q) = val_main_v37 (F := Ideal) x0 x1 x2 x3 x4 (ix2 r q) := by
  pointwise [k0_pay1, k0_pay8, k0_pay11, val_main_v37, val_main_v36, val_main_v35, val_main_v34, val_main_v33, val_main_v32, val_main_v31, val_main_v30, val_main_v29, val_main_v28, val_main_v27, val_main_v26, val_main_v25, val_main_cst_1, val_main_cst_2, val_main_cst_3, val_main_cst_4, val_main_cst_5, val_main_cst_6, val_main_cst_7, val_main_cst_8, val_main_cst_9]
  rw [mean v12 v61 v62 v64 v66 v71 v73 g v81 h3, square v12 v61 v62 v64 v66 v71 v73 g v83 h4, h2]

end

open Cert.Reference16Ideal.Read in
theorem final5 {c : Dev nD} (H : Held m x0 x1 x2 x3 x4 c) : (dats m 0 c).arrAt 5 cfg0.N = Layout.block ⟨2, ![128, 1024]⟩ ⟨2, ![1024, 1024]⟩ 0 8 c (val_main_v13 (F := Ideal) x0 x1) := by
  refine (dats m 0 c).arrAt_eq_of_covers 5 _ (by decide +kernel) fun t hf y => ?_
  blk_simp
  rw [after0_5]
  idx_vars y
  rw [Layout.block_apply]
  refine Eq.trans (b := val_main_v13 (F := Ideal) x0 x1 (ix2 ⟨_, out_row c t y0⟩ y1)) ?_ (congrArg (val_main_v13 (F := Ideal) x0 x1) (funext fun a => Fin.ext ?_))
  · skip
    exact summed H t y0 y1 ⟨_, out_row c t y0⟩ rfl
  · have e : ((cfg0.win 5).blk t).view.emb (ix2 y0 y1) = ix2 ⟨t.val * 128 + y0.val, row_lt t y0⟩ y1 := by blk_ext [idx t]
    refine Eq.trans ?_ (congrArg (fun j => (Layout.Tiles.idx _ c j a).val) e.symm)
    fin_cases a <;> rfl

open Cert.Reference16Ideal.Read in
theorem final6 {c : Dev nD} (H : Held m x0 x1 x2 x3 x4 c) : (dats m 0 c).arrAt 6 cfg0.N = Layout.block ⟨2, ![128, 1024]⟩ ⟨2, ![1024, 1024]⟩ 0 8 c (val_main_v37 (F := Ideal) x0 x1 x2 x3 x4) := by
  refine (dats m 0 c).arrAt_eq_of_covers 6 _ (by decide +kernel) fun t hf y => ?_
  blk_simp
  rw [after0_6]
  idx_vars y
  rw [Layout.block_apply]
  refine Eq.trans (b := val_main_v37 (F := Ideal) x0 x1 x2 x3 x4 (ix2 ⟨_, out_row c t y0⟩ y1)) ?_ (congrArg (val_main_v37 (F := Ideal) x0 x1 x2 x3 x4) (funext fun a => Fin.ext ?_))
  · skip
    unfold outsAt0
    frame_out
    refine step _ _ _ _ _ _ _ (Eq.trans (Eq.symm ?_) (summed H t y0 y1 ⟨_, out_row c t y0⟩ rfl)) _ _ _ (rd2 H t y0 y1 ⟨_, out_row c t y0⟩ rfl) (rd3 H t y0 y1 ⟨_, out_row c t y0⟩ rfl) (rd4 H t y0 y1 ⟨_, out_row c t y0⟩ rfl)
    unfold outsAt0
    frame_out
  · have e : ((cfg0.win 6).blk t).view.emb (ix2 y0 y1) = ix2 ⟨t.val * 128 + y0.val, row_lt t y0⟩ y1 := by blk_ext [idx t]
    refine Eq.trans ?_ (congrArg (fun j => (Layout.Tiles.idx _ c j a).val) e.symm)
    fin_cases a <;> rfl

open Cert.Reference16Ideal.Read in
theorem final7 {c : Dev nD} (H : Held m x0 x1 x2 x3 x4 c) : (dats m 0 c).arrAt 7 cfg0.N = Layout.block ⟨2, ![128, 1024]⟩ ⟨2, ![1024, 1024]⟩ 0 8 c (val_main_v18 (F := Ideal) x0 x1 x3) := by
  refine (dats m 0 c).arrAt_eq_of_covers 7 _ (by decide +kernel) fun t hf y => ?_
  blk_simp
  rw [after0_7]
  idx_vars y
  rw [Layout.block_apply]
  refine Eq.trans (b := val_main_v18 (F := Ideal) x0 x1 x3 (ix2 ⟨_, out_row c t y0⟩ y1)) ?_ (congrArg (val_main_v18 (F := Ideal) x0 x1 x3) (funext fun a => Fin.ext ?_))
  · skip
    unfold outsAt0
    frame_out
    refine mean _ _ _ _ _ _ _ (Eq.trans (Eq.symm ?_) (summed H t y0 y1 ⟨_, out_row c t y0⟩ rfl)) _ (rd3 H t y0 y1 ⟨_, out_row c t y0⟩ rfl)
    unfold outsAt0
    frame_out
  · have e : ((cfg0.win 7).blk t).view.emb (ix2 y0 y1) = ix2 ⟨t.val * 128 + y0.val, row_lt t y0⟩ y1 := by blk_ext [idx t]
    refine Eq.trans ?_ (congrArg (fun j => (Layout.Tiles.idx _ c j a).val) e.symm)
    fin_cases a <;> rfl

open Cert.Reference16Ideal.Read in
theorem final8 {c : Dev nD} (H : Held m x0 x1 x2 x3 x4 c) : (dats m 0 c).arrAt 8 cfg0.N = Layout.block ⟨2, ![128, 1024]⟩ ⟨2, ![1024, 1024]⟩ 0 8 c (val_main_v24 (F := Ideal) x0 x1 x4) := by
  refine (dats m 0 c).arrAt_eq_of_covers 8 _ (by decide +kernel) fun t hf y => ?_
  blk_simp
  rw [after0_8]
  idx_vars y
  rw [Layout.block_apply]
  refine Eq.trans (b := val_main_v24 (F := Ideal) x0 x1 x4 (ix2 ⟨_, out_row c t y0⟩ y1)) ?_ (congrArg (val_main_v24 (F := Ideal) x0 x1 x4) (funext fun a => Fin.ext ?_))
  · skip
    unfold outsAt0
    frame_out
    refine square _ _ _ _ _ _ _ (Eq.trans (Eq.symm ?_) (summed H t y0 y1 ⟨_, out_row c t y0⟩ rfl)) _ (rd4 H t y0 y1 ⟨_, out_row c t y0⟩ rfl)
    unfold outsAt0
    frame_out
  · have e : ((cfg0.win 8).blk t).view.emb (ix2 y0 y1) = ix2 ⟨t.val * 128 + y0.val, row_lt t y0⟩ y1 := by blk_ext [idx t]
    refine Eq.trans ?_ (congrArg (fun j => (Layout.Tiles.idx _ c j a).val) e.symm)
    fin_cases a <;> rfl

open Cert.Reference16Ideal.Read in
/-- each device's results are its parts of the reference's -/
theorem algebraic : Cert.algebraic_Kernel16Ideal_Reference16Ideal := by
  intro m g m' g' _ hagree
  have H : ∀ c, Held m (m' ((0 : Dev Cert.Reference16Ideal.nD).tc.loc Cert.Reference16Ideal.main_arg0)) (m' ((0 : Dev Cert.Reference16Ideal.nD).tc.loc Cert.Reference16Ideal.main_arg1)) (m' ((0 : Dev Cert.Reference16Ideal.nD).tc.loc Cert.Reference16Ideal.main_arg2)) (m' ((0 : Dev Cert.Reference16Ideal.nD).tc.loc Cert.Reference16Ideal.main_arg3)) (m' ((0 : Dev Cert.Reference16Ideal.nD).tc.loc Cert.Reference16Ideal.main_arg4)) c := fun c =>
    ⟨(hagree c).1, (hagree c).2.1, (hagree c).2.2.1, (hagree c).2.2.2.1, (hagree c).2.2.2.2⟩
  refine ⟨val_main_v13 (F := Ideal) (m' ((0 : Dev Cert.Reference16Ideal.nD).tc.loc Cert.Reference16Ideal.main_arg0)) (m' ((0 : Dev Cert.Reference16Ideal.nD).tc.loc Cert.Reference16Ideal.main_arg1)), val_main_v37 (F := Ideal) (m' ((0 : Dev Cert.Reference16Ideal.nD).tc.loc Cert.Reference16Ideal.main_arg0)) (m' ((0 : Dev Cert.Reference16Ideal.nD).tc.loc Cert.Reference16Ideal.main_arg1)) (m' ((0 : Dev Cert.Reference16Ideal.nD).tc.loc Cert.Reference16Ideal.main_arg2)) (m' ((0 : Dev Cert.Reference16Ideal.nD).tc.loc Cert.Reference16Ideal.main_arg3)) (m' ((0 : Dev Cert.Reference16Ideal.nD).tc.loc Cert.Reference16Ideal.main_arg4)), val_main_v18 (F := Ideal) (m' ((0 : Dev Cert.Reference16Ideal.nD).tc.loc Cert.Reference16Ideal.main_arg0)) (m' ((0 : Dev Cert.Reference16Ideal.nD).tc.loc Cert.Reference16Ideal.main_arg1)) (m' ((0 : Dev Cert.Reference16Ideal.nD).tc.loc Cert.Reference16Ideal.main_arg3)), val_main_v24 (F := Ideal) (m' ((0 : Dev Cert.Reference16Ideal.nD).tc.loc Cert.Reference16Ideal.main_arg0)) (m' ((0 : Dev Cert.Reference16Ideal.nD).tc.loc Cert.Reference16Ideal.main_arg1)) (m' ((0 : Dev Cert.Reference16Ideal.nD).tc.loc Cert.Reference16Ideal.main_arg4)), ?_, ?_⟩
  · refine (θ_run _ _ _).mono (fun r h c => ?_) (Cert.Kernel16Ideal.Value.run_blocks m g)
    obtain ⟨h5, h6, h7, h8, hrest⟩ := h c
    exact ⟨h5.trans (final5 (H c)), h6.trans (final6 (H c)), h7.trans (final7 (H c)), h8.trans (final8 (H c)), hrest⟩
  · refine (θ_run _ _ _).mono (fun r h => ?_) (Cert.Reference16Ideal.Value.run m' g')
    obtain ⟨h5, h6, h7, h8, hrest⟩ := h 0
    exact ⟨h5.trans (val_main_v13_eq _ _), h6.trans (val_main_v37_eq _ _ _ _ _), h7.trans (val_main_v18_eq _ _ _), h8.trans (val_main_v24_eq _ _ _), hrest⟩

end Cert.AdamwSum
end
-- ==== Proof.AdamwFfnDown.lean ====
module

public import proofs.«01_k».proof.Proof.OwnAndOthers
public import proofs.«01_k».proof.Proof.Gen.Kernel17Ideal.Value
public import proofs.«01_k».proof.Proof.Gen.Reference17Ideal.Read
public import proofs.«01_k».proof.Proof.Gen.Reference17Ideal.Run
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.AdamwFfnDown

open Cert.OwnAndOthers Cert.Kernel17Ideal Cert.Kernel17Ideal.Gen

variable (m : (ℓ : Loc nD τ sig) → Buf (Elt Ideal) ℓ)
variable (x0 : (⟨Cert.Reference17Ideal.S8x2816x1024, .bf16⟩ : BufTy).Contents (Elt Ideal)) (x1 : (⟨Cert.Reference17Ideal.S2816x1024, .bf16⟩ : BufTy).Contents (Elt Ideal))
  (x2 x3 x4 : (⟨Cert.Reference17Ideal.S2816x1024, .f32⟩ : BufTy).Contents (Elt Ideal))

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] :=
  (by decide +kernel : ∀ t : Fin grid0.N, _)

theorem row_lt (t : Fin cfg0.N) (y : Fin 176) : t.val * 176 + y.val < 352 := by
  have h : t.val < 2 := lt_of_lt_of_eq t.isLt N_0
  omega

open Cert.Reference17Ideal.Read in
theorem holder : ∀ r : Fin 2816, Cert.Reference17Ideal.Read.val_main_v4 (F := Ideal) (ix1 r) = BitVec.ofNat 32 (r.val / 352) := by
  have h : ∀ r : Fin 2816, IntOp.divsi ArithUnit.host (BitVec.ofNat 32 r.val) (BitVec.ofNat 32 352) = BitVec.ofNat 32 (r.val / 352) := by decide +kernel
  intro r
  pointwise [val_main_v4, val_main_v3, val_main_v2, val_main_c]
  exact h r

open Cert.Reference17Ideal.Read in
/-- the whole gradient at one row: the part of the device that holds the row, and the others' -/
theorem grad (c : Fin 8) (r : Fin 2816) (q : Fin 1024) (hc : r.val / 352 = c.val) :
    val_main_v13 (F := Ideal) x0 x1 (ix2 r q) = x1 (ix2 r q) + ∑ s : Fin 8, if s = c then 0 else x0 (ix3 s r q) := by
  pointwise [val_main_v13, val_main_v12, val_main_v11, val_main_v10, val_main_v9, val_main_v8, val_main_v7, val_main_v6, val_main_v5, val_main_v1, val_main_v0, val_main_call0_v2, val_main_call0_v1, val_main_call0_v0, val_main_cst, val_main_cst_0]
  refine congrArg (fun z : EReal => x1 (ix2 r q) + z) (Finset.sum_congr rfl fun s _ => ?_)
  rw [holder, hc]
  refine (other c s _ _).trans ?_
  split
  · simp only [id_eq]; pointwise []
  · rfl

/-- what device `c` holds of the whole arrays -/
structure Held (c : Dev nD) : Prop where
  h0 : m ((c : Thread nD τ).loc main_arg0) = Layout.block ⟨3, ![8, 352, 1024]⟩ ⟨3, ![8, 2816, 1024]⟩ 1 8 c x0
  h1 : m ((c : Thread nD τ).loc main_arg1) = Layout.block ⟨2, ![352, 1024]⟩ ⟨2, ![2816, 1024]⟩ 0 8 c x1
  h2 : m ((c : Thread nD τ).loc main_arg2) = Layout.block ⟨2, ![352, 1024]⟩ ⟨2, ![2816, 1024]⟩ 0 8 c x2
  h3 : m ((c : Thread nD τ).loc main_arg3) = Layout.block ⟨2, ![352, 1024]⟩ ⟨2, ![2816, 1024]⟩ 0 8 c x3
  h4 : m ((c : Thread nD τ).loc main_arg4) = Layout.block ⟨2, ![352, 1024]⟩ ⟨2, ![2816, 1024]⟩ 0 8 c x4

variable {m x0 x1 x2 x3 x4}

theorem rd0 {c : Dev nD} (H : Held m x0 x1 x2 x3 x4 c) (t : Fin cfg0.N) (s : Fin 8) (p : Fin 176) (q : Fin 1024) (r : Fin 2816)
    (hr : r.val = c.val * 352 + (t.val * 176 + p.val)) : iblk m c 0 t (ix3 s p q) = x0 (ix3 s r q) := by
  have e : iblk m c 0 t (ix3 s p q) = m ((c : Thread nD τ).loc main_arg0) (ix3 s ⟨t.val * 176 + p.val, row_lt t p⟩ q) := by
    blk_point [iblk, V_main_arg0, idx t]
  rw [e, H.h0, Layout.block_apply]
  refine congrArg x0 (funext fun a => Fin.ext ?_)
  fin_cases a
  · rfl
  · exact hr.symm
  · rfl

theorem rd1 {c : Dev nD} (H : Held m x0 x1 x2 x3 x4 c) (t : Fin cfg0.N) (p : Fin 176) (q : Fin 1024) (r : Fin 2816)
    (hr : r.val = c.val * 352 + (t.val * 176 + p.val)) : iblk m c 1 t (ix2 p q) = x1 (ix2 r q) := by
  have e : iblk m c 1 t (ix2 p q) = m ((c : Thread nD τ).loc main_arg1) (ix2 ⟨t.val * 176 + p.val, row_lt t p⟩ q) := by
    blk_point [iblk, V_main_arg1, idx t]
  rw [e, H.h1, Layout.block_apply]
  refine congrArg x1 (funext fun a => Fin.ext ?_)
  fin_cases a
  · exact hr.symm
  · rfl

theorem rd2 {c : Dev nD} (H : Held m x0 x1 x2 x3 x4 c) (t : Fin cfg0.N) (p : Fin 176) (q : Fin 1024) (r : Fin 2816)
    (hr : r.val = c.val * 352 + (t.val * 176 + p.val)) : iblk m c 2 t (ix2 p q) = x2 (ix2 r q) := by
  have e : iblk m c 2 t (ix2 p q) = m ((c : Thread nD τ).loc main_arg2) (ix2 ⟨t.val * 176 + p.val, row_lt t p⟩ q) := by
    blk_point [iblk, V_main_arg2, idx t]
  rw [e, H.h2, Layout.block_apply]
  refine congrArg x2 (funext fun a => Fin.ext ?_)
  fin_cases a
  · exact hr.symm
  · rfl

theorem rd3 {c : Dev nD} (H : Held m x0 x1 x2 x3 x4 c) (t : Fin cfg0.N) (p : Fin 176) (q : Fin 1024) (r : Fin 2816)
    (hr : r.val = c.val * 352 + (t.val * 176 + p.val)) : iblk m c 3 t (ix2 p q) = x3 (ix2 r q) := by
  have e : iblk m c 3 t (ix2 p q) = m ((c : Thread nD τ).loc main_arg3) (ix2 ⟨t.val * 176 + p.val, row_lt t p⟩ q) := by
    blk_point [iblk, V_main_arg3, idx t]
  rw [e, H.h3, Layout.block_apply]
  refine congrArg x3 (funext fun a => Fin.ext ?_)
  fin_cases a
  · exact hr.symm
  · rfl

theorem rd4 {c : Dev nD} (H : Held m x0 x1 x2 x3 x4 c) (t : Fin cfg0.N) (p : Fin 176) (q : Fin 1024) (r : Fin 2816)
    (hr : r.val = c.val * 352 + (t.val * 176 + p.val)) : iblk m c 4 t (ix2 p q) = x4 (ix2 r q) := by
  have e : iblk m c 4 t (ix2 p q) = m ((c : Thread nD τ).loc main_arg4) (ix2 ⟨t.val * 176 + p.val, row_lt t p⟩ q) := by
    blk_point [iblk, V_main_arg4, idx t]
  rw [e, H.h4, Layout.block_apply]
  refine congrArg x4 (funext fun a => Fin.ext ?_)
  fin_cases a
  · exact hr.symm
  · rfl

theorem out_row (c : Dev nD) (t : Fin cfg0.N) (y : Fin 176) : c.val * 352 + (t.val * 176 + y.val) < 2816 := by
  have h := row_lt t y
  have hc : c.val < 8 := c.isLt
  omega

open Cert.Reference17Ideal.Read in
/-- the gradient the kernel adds up, at one row of its block -/
theorem summed {c : Dev nD} (H : Held m x0 x1 x2 x3 x4 c) (t : Fin cfg0.N) (p : Fin 176) (q : Fin 1024) (r : Fin 2816)
    (hr : r.val = c.val * 352 + (t.val * 176 + p.val)) :
    (outsAt0 m c t).1 (ix2 p q) = val_main_v13 (F := Ideal) x0 x1 (ix2 r q) := by
  unfold outsAt0
  frame_out
  pointwise [k0_pay7, k0_pay6, k0_pay5, k0_pay4, k0_pay3, k0_pay2]
  refine (total c _ (fun s => iblk m c 0 t (ix3 s p q))).trans ?_
  have h := row_lt t p
  rw [rd1 H t p q r hr, grad x0 x1 c r q (by omega)]
  refine congrArg (fun z : EReal => x1 (ix2 r q) + z) (Finset.sum_congr rfl fun s _ => ?_)
  rw [rd0 H t s p q r hr]

section
variable {p : Fin 176} {q : Fin 1024} {r : Fin 2816} (v12 : BitVec 32) (v61 : FVec Ideal S176x1024 .f32) (v62 : BitVec 1) (v64 : FVec Ideal S176x1024 .bf16) (v66 : FVec Ideal S176x1024 .bf16) (v71 : Vec Ideal S176x1024 .bf16) (v73 : Vec Ideal S1x176x1024 .bf16)
  (g : k0_pay7 v12 v61 v62 v64 v66 v71 v73 (ix2 p q) = Cert.Reference17Ideal.Read.val_main_v13 (F := Ideal) x0 x1 (ix2 r q))
include g

open Cert.Reference17Ideal.Read in
theorem mean (v81 : Vec Ideal S176x1024 .f32) (h : v81 (ix2 p q) = x3 (ix2 r q)) :
    k0_pay9 v12 v61 v62 v64 v66 v71 v73 v81 (ix2 p q) = val_main_v18 (F := Ideal) x0 x1 x3 (ix2 r q) := by
  pointwise [k0_pay9, val_main_v18, val_main_v17, val_main_v16, val_main_v15, val_main_v14, val_main_cst_1, val_main_cst_2, val_main_cst_3, val_main_cst_4, val_main_cst_5, val_main_cst_6, val_main_cst_7, val_main_cst_8, val_main_cst_9]
  rw [g, h]

open Cert.Reference17Ideal.Read in
theorem square (v83 : Vec Ideal S176x1024 .f32) (h : v83 (ix2 p q) = x4 (ix2 r q)) :
    k0_pay10 v12 v61 v62 v64 v66 v71 v73 v83 (ix2 p q) = val_main_v24 (F := Ideal) x0 x1 x4 (ix2 r q) := by
  pointwise [k0_pay10, val_main_v24, val_main_v23, val_main_v22, val_main_v21, val_main_v20, val_main_v19, val_main_cst_1, val_main_cst_2, val_main_cst_3, val_main_cst_4, val_main_cst_5, val_main_cst_6, val_main_cst_7, val_main_cst_8, val_main_cst_9]
  rw [g, h]

open Cert.Reference17Ideal.Read in
theorem step (v79 v81 v83 : Vec Ideal S176x1024 .f32) (h2 : v79 (ix2 p q) = x2 (ix2 r q)) (h3 : v81 (ix2 p q) = x3 (ix2 r q)) (h4 : v83 (ix2 p q) = x4 (ix2 r q)) :
    k0_pay1 (k0_pay8 v79) (k0_pay11 v12 v61 v62 v64 v66 v71 v73 v81 v83) (Scalar.ofBits .f32 0x3C23D70A#32) (ix2 p q) = val_main_v37 (F := Ideal) x0 x1 x2 x3 x4 (ix2 r q) := by
  pointwise [k0_pay1, k0_pay8, k0_pay11, val_main_v37, val_main_v36, val_main_v35, val_main_v34, val_main_v33, val_main_v32, val_main_v31, val_main_v30, val_main_v29, val_main_v28, val_main_v27, val_main_v26, val_main_v25, val_main_cst_1, val_main_cst_2, val_main_cst_3, val_main_cst_4, val_main_cst_5, val_main_cst_6, val_main_cst_7, val_main_cst_8, val_main_cst_9]
  rw [mean v12 v61 v62 v64 v66 v71 v73 g v81 h3, square v12 v61 v62 v64 v66 v71 v73 g v83 h4, h2]

end

open Cert.Reference17Ideal.Read in
theorem final5 {c : Dev nD} (H : Held m x0 x1 x2 x3 x4 c) : (dats m 0 c).arrAt 5 cfg0.N = Layout.block ⟨2, ![352, 1024]⟩ ⟨2, ![2816, 1024]⟩ 0 8 c (val_main_v13 (F := Ideal) x0 x1) := by
  refine (dats m 0 c).arrAt_eq_of_covers 5 _ (by decide +kernel) fun t hf y => ?_
  blk_simp
  rw [after0_5]
  idx_vars y
  rw [Layout.block_apply]
  refine Eq.trans (b := val_main_v13 (F := Ideal) x0 x1 (ix2 ⟨_, out_row c t y0⟩ y1)) ?_ (congrArg (val_main_v13 (F := Ideal) x0 x1) (funext fun a => Fin.ext ?_))
  · skip
    exact summed H t y0 y1 ⟨_, out_row c t y0⟩ rfl
  · have e : ((cfg0.win 5).blk t).view.emb (ix2 y0 y1) = ix2 ⟨t.val * 176 + y0.val, row_lt t y0⟩ y1 := by blk_ext [idx t]
    refine Eq.trans ?_ (congrArg (fun j => (Layout.Tiles.idx _ c j a).val) e.symm)
    fin_cases a <;> rfl

open Cert.Reference17Ideal.Read in
theorem final6 {c : Dev nD} (H : Held m x0 x1 x2 x3 x4 c) : (dats m 0 c).arrAt 6 cfg0.N = Layout.block ⟨2, ![352, 1024]⟩ ⟨2, ![2816, 1024]⟩ 0 8 c (val_main_v37 (F := Ideal) x0 x1 x2 x3 x4) := by
  refine (dats m 0 c).arrAt_eq_of_covers 6 _ (by decide +kernel) fun t hf y => ?_
  blk_simp
  rw [after0_6]
  idx_vars y
  rw [Layout.block_apply]
  refine Eq.trans (b := val_main_v37 (F := Ideal) x0 x1 x2 x3 x4 (ix2 ⟨_, out_row c t y0⟩ y1)) ?_ (congrArg (val_main_v37 (F := Ideal) x0 x1 x2 x3 x4) (funext fun a => Fin.ext ?_))
  · skip
    unfold outsAt0
    frame_out
    refine step _ _ _ _ _ _ _ (Eq.trans (Eq.symm ?_) (summed H t y0 y1 ⟨_, out_row c t y0⟩ rfl)) _ _ _ (rd2 H t y0 y1 ⟨_, out_row c t y0⟩ rfl) (rd3 H t y0 y1 ⟨_, out_row c t y0⟩ rfl) (rd4 H t y0 y1 ⟨_, out_row c t y0⟩ rfl)
    unfold outsAt0
    frame_out
  · have e : ((cfg0.win 6).blk t).view.emb (ix2 y0 y1) = ix2 ⟨t.val * 176 + y0.val, row_lt t y0⟩ y1 := by blk_ext [idx t]
    refine Eq.trans ?_ (congrArg (fun j => (Layout.Tiles.idx _ c j a).val) e.symm)
    fin_cases a <;> rfl

open Cert.Reference17Ideal.Read in
theorem final7 {c : Dev nD} (H : Held m x0 x1 x2 x3 x4 c) : (dats m 0 c).arrAt 7 cfg0.N = Layout.block ⟨2, ![352, 1024]⟩ ⟨2, ![2816, 1024]⟩ 0 8 c (val_main_v18 (F := Ideal) x0 x1 x3) := by
  refine (dats m 0 c).arrAt_eq_of_covers 7 _ (by decide +kernel) fun t hf y => ?_
  blk_simp
  rw [after0_7]
  idx_vars y
  rw [Layout.block_apply]
  refine Eq.trans (b := val_main_v18 (F := Ideal) x0 x1 x3 (ix2 ⟨_, out_row c t y0⟩ y1)) ?_ (congrArg (val_main_v18 (F := Ideal) x0 x1 x3) (funext fun a => Fin.ext ?_))
  · skip
    unfold outsAt0
    frame_out
    refine mean _ _ _ _ _ _ _ (Eq.trans (Eq.symm ?_) (summed H t y0 y1 ⟨_, out_row c t y0⟩ rfl)) _ (rd3 H t y0 y1 ⟨_, out_row c t y0⟩ rfl)
    unfold outsAt0
    frame_out
  · have e : ((cfg0.win 7).blk t).view.emb (ix2 y0 y1) = ix2 ⟨t.val * 176 + y0.val, row_lt t y0⟩ y1 := by blk_ext [idx t]
    refine Eq.trans ?_ (congrArg (fun j => (Layout.Tiles.idx _ c j a).val) e.symm)
    fin_cases a <;> rfl

open Cert.Reference17Ideal.Read in
theorem final8 {c : Dev nD} (H : Held m x0 x1 x2 x3 x4 c) : (dats m 0 c).arrAt 8 cfg0.N = Layout.block ⟨2, ![352, 1024]⟩ ⟨2, ![2816, 1024]⟩ 0 8 c (val_main_v24 (F := Ideal) x0 x1 x4) := by
  refine (dats m 0 c).arrAt_eq_of_covers 8 _ (by decide +kernel) fun t hf y => ?_
  blk_simp
  rw [after0_8]
  idx_vars y
  rw [Layout.block_apply]
  refine Eq.trans (b := val_main_v24 (F := Ideal) x0 x1 x4 (ix2 ⟨_, out_row c t y0⟩ y1)) ?_ (congrArg (val_main_v24 (F := Ideal) x0 x1 x4) (funext fun a => Fin.ext ?_))
  · skip
    unfold outsAt0
    frame_out
    refine square _ _ _ _ _ _ _ (Eq.trans (Eq.symm ?_) (summed H t y0 y1 ⟨_, out_row c t y0⟩ rfl)) _ (rd4 H t y0 y1 ⟨_, out_row c t y0⟩ rfl)
    unfold outsAt0
    frame_out
  · have e : ((cfg0.win 8).blk t).view.emb (ix2 y0 y1) = ix2 ⟨t.val * 176 + y0.val, row_lt t y0⟩ y1 := by blk_ext [idx t]
    refine Eq.trans ?_ (congrArg (fun j => (Layout.Tiles.idx _ c j a).val) e.symm)
    fin_cases a <;> rfl

open Cert.Reference17Ideal.Read in
/-- each device's results are its parts of the reference's -/
theorem algebraic : Cert.algebraic_Kernel17Ideal_Reference17Ideal := by
  intro m g m' g' _ hagree
  have H : ∀ c, Held m (m' ((0 : Dev Cert.Reference17Ideal.nD).tc.loc Cert.Reference17Ideal.main_arg0)) (m' ((0 : Dev Cert.Reference17Ideal.nD).tc.loc Cert.Reference17Ideal.main_arg1)) (m' ((0 : Dev Cert.Reference17Ideal.nD).tc.loc Cert.Reference17Ideal.main_arg2)) (m' ((0 : Dev Cert.Reference17Ideal.nD).tc.loc Cert.Reference17Ideal.main_arg3)) (m' ((0 : Dev Cert.Reference17Ideal.nD).tc.loc Cert.Reference17Ideal.main_arg4)) c := fun c =>
    ⟨(hagree c).1, (hagree c).2.1, (hagree c).2.2.1, (hagree c).2.2.2.1, (hagree c).2.2.2.2⟩
  refine ⟨val_main_v13 (F := Ideal) (m' ((0 : Dev Cert.Reference17Ideal.nD).tc.loc Cert.Reference17Ideal.main_arg0)) (m' ((0 : Dev Cert.Reference17Ideal.nD).tc.loc Cert.Reference17Ideal.main_arg1)), val_main_v37 (F := Ideal) (m' ((0 : Dev Cert.Reference17Ideal.nD).tc.loc Cert.Reference17Ideal.main_arg0)) (m' ((0 : Dev Cert.Reference17Ideal.nD).tc.loc Cert.Reference17Ideal.main_arg1)) (m' ((0 : Dev Cert.Reference17Ideal.nD).tc.loc Cert.Reference17Ideal.main_arg2)) (m' ((0 : Dev Cert.Reference17Ideal.nD).tc.loc Cert.Reference17Ideal.main_arg3)) (m' ((0 : Dev Cert.Reference17Ideal.nD).tc.loc Cert.Reference17Ideal.main_arg4)), val_main_v18 (F := Ideal) (m' ((0 : Dev Cert.Reference17Ideal.nD).tc.loc Cert.Reference17Ideal.main_arg0)) (m' ((0 : Dev Cert.Reference17Ideal.nD).tc.loc Cert.Reference17Ideal.main_arg1)) (m' ((0 : Dev Cert.Reference17Ideal.nD).tc.loc Cert.Reference17Ideal.main_arg3)), val_main_v24 (F := Ideal) (m' ((0 : Dev Cert.Reference17Ideal.nD).tc.loc Cert.Reference17Ideal.main_arg0)) (m' ((0 : Dev Cert.Reference17Ideal.nD).tc.loc Cert.Reference17Ideal.main_arg1)) (m' ((0 : Dev Cert.Reference17Ideal.nD).tc.loc Cert.Reference17Ideal.main_arg4)), ?_, ?_⟩
  · refine (θ_run _ _ _).mono (fun r h c => ?_) (Cert.Kernel17Ideal.Value.run_blocks m g)
    obtain ⟨h5, h6, h7, h8, hrest⟩ := h c
    exact ⟨h5.trans (final5 (H c)), h6.trans (final6 (H c)), h7.trans (final7 (H c)), h8.trans (final8 (H c)), hrest⟩
  · refine (θ_run _ _ _).mono (fun r h => ?_) (Cert.Reference17Ideal.Value.run m' g')
    obtain ⟨h5, h6, h7, h8, hrest⟩ := h 0
    exact ⟨h5.trans (val_main_v13_eq _ _), h6.trans (val_main_v37_eq _ _ _ _ _), h7.trans (val_main_v18_eq _ _ _), h8.trans (val_main_v24_eq _ _ _), hrest⟩

end Cert.AdamwFfnDown
end
-- ==== Proof.AdamwIn.lean ====
module

public import proofs.«01_k».proof.Proof.OwnAndOthers
public import proofs.«01_k».proof.Proof.Gen.Kernel18Ideal.Value
public import proofs.«01_k».proof.Proof.Gen.Reference18Ideal.Read
public import proofs.«01_k».proof.Proof.Gen.Reference18Ideal.Run
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.AdamwIn

open Cert.OwnAndOthers Cert.Kernel18Ideal Cert.Kernel18Ideal.Gen

variable (m : (ℓ : Loc nD τ sig) → Buf (Elt Ideal) ℓ)
variable (x0 : (⟨Cert.Reference18Ideal.S8x5376x1024, .bf16⟩ : BufTy).Contents (Elt Ideal)) (x1 : (⟨Cert.Reference18Ideal.S5376x1024, .bf16⟩ : BufTy).Contents (Elt Ideal))
  (x2 x3 x4 : (⟨Cert.Reference18Ideal.S1024x5376, .f32⟩ : BufTy).Contents (Elt Ideal))

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] :=
  (by decide +kernel : ∀ t : Fin grid0.N, _)

theorem row_lt (t : Fin cfg0.N) (y : Fin 336) : t.val * 336 + y.val < 672 := by
  have h : t.val < 2 := lt_of_lt_of_eq t.isLt N_0
  omega

open Cert.Reference18Ideal.Read in
theorem holder : ∀ r : Fin 5376, Cert.Reference18Ideal.Read.val_main_v4 (F := Ideal) (ix1 r) = BitVec.ofNat 32 (r.val / 672) := by
  have h : ∀ r : Fin 5376, IntOp.divsi ArithUnit.host (BitVec.ofNat 32 r.val) (BitVec.ofNat 32 672) = BitVec.ofNat 32 (r.val / 672) := by decide +kernel
  intro r
  pointwise [val_main_v4, val_main_v3, val_main_v2, val_main_c]
  exact h r

open Cert.Reference18Ideal.Read in
/-- the whole gradient at one row: the part of the device that holds the row, and the others' -/
theorem grad (c : Fin 8) (r : Fin 5376) (q : Fin 1024) (hc : r.val / 672 = c.val) :
    val_main_v13 (F := Ideal) x0 x1 (ix2 r q) = x1 (ix2 r q) + ∑ s : Fin 8, if s = c then 0 else x0 (ix3 s r q) := by
  pointwise [val_main_v13, val_main_v12, val_main_v11, val_main_v10, val_main_v9, val_main_v8, val_main_v7, val_main_v6, val_main_v5, val_main_v1, val_main_v0, val_main_call0_v2, val_main_call0_v1, val_main_call0_v0, val_main_cst, val_main_cst_0]
  refine congrArg (fun z : EReal => x1 (ix2 r q) + z) (Finset.sum_congr rfl fun s _ => ?_)
  rw [holder, hc]
  refine (other c s _ _).trans ?_
  split
  · simp only [id_eq]; pointwise []
  · rfl

/-- what device `c` holds of the whole arrays -/
structure Held (c : Dev nD) : Prop where
  h0 : m ((c : Thread nD τ).loc main_arg0) = Layout.block ⟨3, ![8, 672, 1024]⟩ ⟨3, ![8, 5376, 1024]⟩ 1 8 c x0
  h1 : m ((c : Thread nD τ).loc main_arg1) = Layout.block ⟨2, ![672, 1024]⟩ ⟨2, ![5376, 1024]⟩ 0 8 c x1
  h2 : m ((c : Thread nD τ).loc main_arg2) = Layout.block ⟨2, ![1024, 672]⟩ ⟨2, ![1024, 5376]⟩ 1 8 c x2
  h3 : m ((c : Thread nD τ).loc main_arg3) = Layout.block ⟨2, ![1024, 672]⟩ ⟨2, ![1024, 5376]⟩ 1 8 c x3
  h4 : m ((c : Thread nD τ).loc main_arg4) = Layout.block ⟨2, ![1024, 672]⟩ ⟨2, ![1024, 5376]⟩ 1 8 c x4

variable {m x0 x1 x2 x3 x4}

theorem rd0 {c : Dev nD} (H : Held m x0 x1 x2 x3 x4 c) (t : Fin cfg0.N) (s : Fin 8) (p : Fin 336) (q : Fin 1024) (r : Fin 5376)
    (hr : r.val = c.val * 672 + (t.val * 336 + p.val)) : iblk m c 0 t (ix3 s p q) = x0 (ix3 s r q) := by
  have e : iblk m c 0 t (ix3 s p q) = m ((c : Thread nD τ).loc main_arg0) (ix3 s ⟨t.val * 336 + p.val, row_lt t p⟩ q) := by
    blk_point [iblk, V_main_arg0, idx t]
  rw [e, H.h0, Layout.block_apply]
  refine congrArg x0 (funext fun a => Fin.ext ?_)
  fin_cases a
  · rfl
  · exact hr.symm
  · rfl

theorem rd1 {c : Dev nD} (H : Held m x0 x1 x2 x3 x4 c) (t : Fin cfg0.N) (p : Fin 336) (q : Fin 1024) (r : Fin 5376)
    (hr : r.val = c.val * 672 + (t.val * 336 + p.val)) : iblk m c 1 t (ix2 p q) = x1 (ix2 r q) := by
  have e : iblk m c 1 t (ix2 p q) = m ((c : Thread nD τ).loc main_arg1) (ix2 ⟨t.val * 336 + p.val, row_lt t p⟩ q) := by
    blk_point [iblk, V_main_arg1, idx t]
  rw [e, H.h1, Layout.block_apply]
  refine congrArg x1 (funext fun a => Fin.ext ?_)
  fin_cases a
  · exact hr.symm
  · rfl

theorem rd2 {c : Dev nD} (H : Held m x0 x1 x2 x3 x4 c) (t : Fin cfg0.N) (p : Fin 336) (q : Fin 1024) (r : Fin 5376)
    (hr : r.val = c.val * 672 + (t.val * 336 + p.val)) : iblk m c 2 t (ix2 p q) = x2 (ix2 q r) := by
  have e : iblk m c 2 t (ix2 p q) = m ((c : Thread nD τ).loc main_arg2) (ix2 q ⟨t.val * 336 + p.val, row_lt t p⟩) := by
    blk_point [iblk, V, idx t]
  rw [e, H.h2, Layout.block_apply]
  refine congrArg x2 (funext fun a => Fin.ext ?_)
  fin_cases a
  · rfl
  · exact hr.symm

theorem rd3 {c : Dev nD} (H : Held m x0 x1 x2 x3 x4 c) (t : Fin cfg0.N) (p : Fin 336) (q : Fin 1024) (r : Fin 5376)
    (hr : r.val = c.val * 672 + (t.val * 336 + p.val)) : iblk m c 3 t (ix2 p q) = x3 (ix2 q r) := by
  have e : iblk m c 3 t (ix2 p q) = m ((c : Thread nD τ).loc main_arg3) (ix2 q ⟨t.val * 336 + p.val, row_lt t p⟩) := by
    blk_point [iblk, V, idx t]
  rw [e, H.h3, Layout.block_apply]
  refine congrArg x3 (funext fun a => Fin.ext ?_)
  fin_cases a
  · rfl
  · exact hr.symm

theorem rd4 {c : Dev nD} (H : Held m x0 x1 x2 x3 x4 c) (t : Fin cfg0.N) (p : Fin 336) (q : Fin 1024) (r : Fin 5376)
    (hr : r.val = c.val * 672 + (t.val * 336 + p.val)) : iblk m c 4 t (ix2 p q) = x4 (ix2 q r) := by
  have e : iblk m c 4 t (ix2 p q) = m ((c : Thread nD τ).loc main_arg4) (ix2 q ⟨t.val * 336 + p.val, row_lt t p⟩) := by
    blk_point [iblk, V, idx t]
  rw [e, H.h4, Layout.block_apply]
  refine congrArg x4 (funext fun a => Fin.ext ?_)
  fin_cases a
  · rfl
  · exact hr.symm

theorem out_row (c : Dev nD) (t : Fin cfg0.N) (y : Fin 336) : c.val * 672 + (t.val * 336 + y.val) < 5376 := by
  have h := row_lt t y
  have hc : c.val < 8 := c.isLt
  omega

open Cert.Reference18Ideal.Read in
/-- the gradient the kernel adds up, at one row of its block -/
theorem summed {c : Dev nD} (H : Held m x0 x1 x2 x3 x4 c) (t : Fin cfg0.N) (p : Fin 336) (q : Fin 1024) (r : Fin 5376)
    (hr : r.val = c.val * 672 + (t.val * 336 + p.val)) :
    (outsAt0 m c t).1 (ix2 p q) = val_main_v13 (F := Ideal) x0 x1 (ix2 r q) := by
  unfold outsAt0
  frame_out
  pointwise [k0_pay7, k0_pay6, k0_pay5, k0_pay4, k0_pay3, k0_pay2]
  refine (total c _ (fun s => iblk m c 0 t (ix3 s p q))).trans ?_
  have h := row_lt t p
  rw [rd1 H t p q r hr, grad x0 x1 c r q (by omega)]
  refine congrArg (fun z : EReal => x1 (ix2 r q) + z) (Finset.sum_congr rfl fun s _ => ?_)
  rw [rd0 H t s p q r hr]

section
variable {p : Fin 336} {q : Fin 1024} {r : Fin 5376} (v12 : BitVec 32) (v61 : FVec Ideal S336x1024 .f32) (v62 : BitVec 1) (v64 : FVec Ideal S336x1024 .bf16) (v66 : FVec Ideal S336x1024 .bf16) (v71 : Vec Ideal S336x1024 .bf16) (v73 : Vec Ideal S1x336x1024 .bf16)
  (g : k0_pay7 v12 v61 v62 v64 v66 v71 v73 (ix2 p q) = Cert.Reference18Ideal.Read.val_main_v13 (F := Ideal) x0 x1 (ix2 r q))
include g

open Cert.Reference18Ideal.Read in
theorem mean (v81 : Vec Ideal S336x1024 .f32) (h : v81 (ix2 p q) = x3 (ix2 q r)) :
    k0_pay9 v12 v61 v62 v64 v66 v71 v73 v81 (ix2 p q) = val_main_v21 (F := Ideal) x0 x1 x3 (ix2 r q) := by
  pointwise [k0_pay9, val_main_v21, val_main_v20, val_main_v19, val_main_v18, val_main_v17, val_main_v15, val_main_cst_1, val_main_cst_2, val_main_cst_3, val_main_cst_4, val_main_cst_5, val_main_cst_6, val_main_cst_7, val_main_cst_8, val_main_cst_9]
  rw [g, h]

open Cert.Reference18Ideal.Read in
theorem square (v83 : Vec Ideal S336x1024 .f32) (h : v83 (ix2 p q) = x4 (ix2 q r)) :
    k0_pay10 v12 v61 v62 v64 v66 v71 v73 v83 (ix2 p q) = val_main_v27 (F := Ideal) x0 x1 x4 (ix2 r q) := by
  pointwise [k0_pay10, val_main_v27, val_main_v26, val_main_v25, val_main_v24, val_main_v23, val_main_v22, val_main_v16, val_main_cst_1, val_main_cst_2, val_main_cst_3, val_main_cst_4, val_main_cst_5, val_main_cst_6, val_main_cst_7, val_main_cst_8, val_main_cst_9]
  rw [g, h]

open Cert.Reference18Ideal.Read in
theorem step (v79 v81 v83 : Vec Ideal S336x1024 .f32) (h2 : v79 (ix2 p q) = x2 (ix2 q r)) (h3 : v81 (ix2 p q) = x3 (ix2 q r)) (h4 : v83 (ix2 p q) = x4 (ix2 q r)) :
    k0_pay1 (k0_pay8 v79) (k0_pay11 v12 v61 v62 v64 v66 v71 v73 v81 v83) (Scalar.ofBits .f32 0x3C23D70A#32) (ix2 p q) = val_main_v40 (F := Ideal) x0 x1 x2 x3 x4 (ix2 r q) := by
  pointwise [k0_pay1, k0_pay8, k0_pay11, val_main_v40, val_main_v39, val_main_v38, val_main_v37, val_main_v36, val_main_v35, val_main_v34, val_main_v33, val_main_v32, val_main_v31, val_main_v30, val_main_v29, val_main_v28, val_main_v14, val_main_cst_1, val_main_cst_2, val_main_cst_3, val_main_cst_4, val_main_cst_5, val_main_cst_6, val_main_cst_7, val_main_cst_8, val_main_cst_9]
  rw [mean v12 v61 v62 v64 v66 v71 v73 g v81 h3, square v12 v61 v62 v64 v66 v71 v73 g v83 h4, h2]

end

open Cert.Reference18Ideal.Read in
theorem final5 {c : Dev nD} (H : Held m x0 x1 x2 x3 x4 c) : (dats m 0 c).arrAt 5 cfg0.N = Layout.block ⟨2, ![672, 1024]⟩ ⟨2, ![5376, 1024]⟩ 0 8 c (val_main_v13 (F := Ideal) x0 x1) := by
  refine (dats m 0 c).arrAt_eq_of_covers 5 _ (by decide +kernel) fun t hf y => ?_
  blk_simp
  rw [after0_5]
  idx_vars y
  rw [Layout.block_apply]
  refine Eq.trans (b := val_main_v13 (F := Ideal) x0 x1 (ix2 ⟨_, out_row c t y0⟩ y1)) ?_ (congrArg (val_main_v13 (F := Ideal) x0 x1) (funext fun a => Fin.ext ?_))
  · skip
    exact summed H t y0 y1 ⟨_, out_row c t y0⟩ rfl
  · have e : ((cfg0.win 5).blk t).view.emb (ix2 y0 y1) = ix2 ⟨t.val * 336 + y0.val, row_lt t y0⟩ y1 := by blk_ext [idx t]
    refine Eq.trans ?_ (congrArg (fun j => (Layout.Tiles.idx _ c j a).val) e.symm)
    fin_cases a <;> rfl

open Cert.Reference18Ideal.Read in
theorem final6 {c : Dev nD} (H : Held m x0 x1 x2 x3 x4 c) : (dats m 0 c).arrAt 6 cfg0.N = Layout.block ⟨2, ![672, 1024]⟩ ⟨2, ![5376, 1024]⟩ 0 8 c (val_main_v40 (F := Ideal) x0 x1 x2 x3 x4) := by
  refine (dats m 0 c).arrAt_eq_of_covers 6 _ (by decide +kernel) fun t hf y => ?_
  blk_simp
  rw [after0_6]
  idx_vars y
  rw [Layout.block_apply]
  refine Eq.trans (b := val_main_v40 (F := Ideal) x0 x1 x2 x3 x4 (ix2 ⟨_, out_row c t y0⟩ y1)) ?_ (congrArg (val_main_v40 (F := Ideal) x0 x1 x2 x3 x4) (funext fun a => Fin.ext ?_))
  · skip
    unfold outsAt0
    frame_out
    refine step _ _ _ _ _ _ _ (Eq.trans (Eq.symm ?_) (summed H t y0 y1 ⟨_, out_row c t y0⟩ rfl)) _ _ _ (rd2 H t y0 y1 ⟨_, out_row c t y0⟩ rfl) (rd3 H t y0 y1 ⟨_, out_row c t y0⟩ rfl) (rd4 H t y0 y1 ⟨_, out_row c t y0⟩ rfl)
    unfold outsAt0
    frame_out
  · have e : ((cfg0.win 6).blk t).view.emb (ix2 y0 y1) = ix2 ⟨t.val * 336 + y0.val, row_lt t y0⟩ y1 := by blk_ext [idx t]
    refine Eq.trans ?_ (congrArg (fun j => (Layout.Tiles.idx _ c j a).val) e.symm)
    fin_cases a <;> rfl

open Cert.Reference18Ideal.Read in
theorem final7 {c : Dev nD} (H : Held m x0 x1 x2 x3 x4 c) : (dats m 0 c).arrAt 7 cfg0.N = Layout.block ⟨2, ![672, 1024]⟩ ⟨2, ![5376, 1024]⟩ 0 8 c (val_main_v21 (F := Ideal) x0 x1 x3) := by
  refine (dats m 0 c).arrAt_eq_of_covers 7 _ (by decide +kernel) fun t hf y => ?_
  blk_simp
  rw [after0_7]
  idx_vars y
  rw [Layout.block_apply]
  refine Eq.trans (b := val_main_v21 (F := Ideal) x0 x1 x3 (ix2 ⟨_, out_row c t y0⟩ y1)) ?_ (congrArg (val_main_v21 (F := Ideal) x0 x1 x3) (funext fun a => Fin.ext ?_))
  · skip
    unfold outsAt0
    frame_out
    refine mean _ _ _ _ _ _ _ (Eq.trans (Eq.symm ?_) (summed H t y0 y1 ⟨_, out_row c t y0⟩ rfl)) _ (rd3 H t y0 y1 ⟨_, out_row c t y0⟩ rfl)
    unfold outsAt0
    frame_out
  · have e : ((cfg0.win 7).blk t).view.emb (ix2 y0 y1) = ix2 ⟨t.val * 336 + y0.val, row_lt t y0⟩ y1 := by blk_ext [idx t]
    refine Eq.trans ?_ (congrArg (fun j => (Layout.Tiles.idx _ c j a).val) e.symm)
    fin_cases a <;> rfl

open Cert.Reference18Ideal.Read in
theorem final8 {c : Dev nD} (H : Held m x0 x1 x2 x3 x4 c) : (dats m 0 c).arrAt 8 cfg0.N = Layout.block ⟨2, ![672, 1024]⟩ ⟨2, ![5376, 1024]⟩ 0 8 c (val_main_v27 (F := Ideal) x0 x1 x4) := by
  refine (dats m 0 c).arrAt_eq_of_covers 8 _ (by decide +kernel) fun t hf y => ?_
  blk_simp
  rw [after0_8]
  idx_vars y
  rw [Layout.block_apply]
  refine Eq.trans (b := val_main_v27 (F := Ideal) x0 x1 x4 (ix2 ⟨_, out_row c t y0⟩ y1)) ?_ (congrArg (val_main_v27 (F := Ideal) x0 x1 x4) (funext fun a => Fin.ext ?_))
  · skip
    unfold outsAt0
    frame_out
    refine square _ _ _ _ _ _ _ (Eq.trans (Eq.symm ?_) (summed H t y0 y1 ⟨_, out_row c t y0⟩ rfl)) _ (rd4 H t y0 y1 ⟨_, out_row c t y0⟩ rfl)
    unfold outsAt0
    frame_out
  · have e : ((cfg0.win 8).blk t).view.emb (ix2 y0 y1) = ix2 ⟨t.val * 336 + y0.val, row_lt t y0⟩ y1 := by blk_ext [idx t]
    refine Eq.trans ?_ (congrArg (fun j => (Layout.Tiles.idx _ c j a).val) e.symm)
    fin_cases a <;> rfl

open Cert.Reference18Ideal.Read in
/-- each device's results are its parts of the reference's -/
theorem algebraic : Cert.algebraic_Kernel18Ideal_Reference18Ideal := by
  intro m g m' g' _ hagree
  have H : ∀ c, Held m (m' ((0 : Dev Cert.Reference18Ideal.nD).tc.loc Cert.Reference18Ideal.main_arg0)) (m' ((0 : Dev Cert.Reference18Ideal.nD).tc.loc Cert.Reference18Ideal.main_arg1)) (m' ((0 : Dev Cert.Reference18Ideal.nD).tc.loc Cert.Reference18Ideal.main_arg2)) (m' ((0 : Dev Cert.Reference18Ideal.nD).tc.loc Cert.Reference18Ideal.main_arg3)) (m' ((0 : Dev Cert.Reference18Ideal.nD).tc.loc Cert.Reference18Ideal.main_arg4)) c := fun c =>
    ⟨(hagree c).1, (hagree c).2.1, (hagree c).2.2.1, (hagree c).2.2.2.1, (hagree c).2.2.2.2⟩
  refine ⟨val_main_v13 (F := Ideal) (m' ((0 : Dev Cert.Reference18Ideal.nD).tc.loc Cert.Reference18Ideal.main_arg0)) (m' ((0 : Dev Cert.Reference18Ideal.nD).tc.loc Cert.Reference18Ideal.main_arg1)), val_main_v40 (F := Ideal) (m' ((0 : Dev Cert.Reference18Ideal.nD).tc.loc Cert.Reference18Ideal.main_arg0)) (m' ((0 : Dev Cert.Reference18Ideal.nD).tc.loc Cert.Reference18Ideal.main_arg1)) (m' ((0 : Dev Cert.Reference18Ideal.nD).tc.loc Cert.Reference18Ideal.main_arg2)) (m' ((0 : Dev Cert.Reference18Ideal.nD).tc.loc Cert.Reference18Ideal.main_arg3)) (m' ((0 : Dev Cert.Reference18Ideal.nD).tc.loc Cert.Reference18Ideal.main_arg4)), val_main_v21 (F := Ideal) (m' ((0 : Dev Cert.Reference18Ideal.nD).tc.loc Cert.Reference18Ideal.main_arg0)) (m' ((0 : Dev Cert.Reference18Ideal.nD).tc.loc Cert.Reference18Ideal.main_arg1)) (m' ((0 : Dev Cert.Reference18Ideal.nD).tc.loc Cert.Reference18Ideal.main_arg3)), val_main_v27 (F := Ideal) (m' ((0 : Dev Cert.Reference18Ideal.nD).tc.loc Cert.Reference18Ideal.main_arg0)) (m' ((0 : Dev Cert.Reference18Ideal.nD).tc.loc Cert.Reference18Ideal.main_arg1)) (m' ((0 : Dev Cert.Reference18Ideal.nD).tc.loc Cert.Reference18Ideal.main_arg4)), ?_, ?_⟩
  · refine (θ_run _ _ _).mono (fun r h c => ?_) (Cert.Kernel18Ideal.Value.run_blocks m g)
    obtain ⟨h5, h6, h7, h8, hrest⟩ := h c
    exact ⟨h5.trans (final5 (H c)), h6.trans (final6 (H c)), h7.trans (final7 (H c)), h8.trans (final8 (H c)), hrest⟩
  · refine (θ_run _ _ _).mono (fun r h => ?_) (Cert.Reference18Ideal.Value.run m' g')
    obtain ⟨h5, h6, h7, h8, hrest⟩ := h 0
    exact ⟨h5.trans (val_main_v13_eq _ _), h6.trans (val_main_v40_eq _ _ _ _ _), h7.trans (val_main_v21_eq _ _ _), h8.trans (val_main_v27_eq _ _ _), hrest⟩

end Cert.AdamwIn
end
-- ==== Proof.AdamwFfnIn.lean ====
module

public import proofs.«01_k».proof.Proof.OwnAndOthers
public import proofs.«01_k».proof.Proof.Gen.Kernel19Ideal.Value
public import proofs.«01_k».proof.Proof.Gen.Reference19Ideal.Read
public import proofs.«01_k».proof.Proof.Gen.Reference19Ideal.Run
public import Idealize.ShloMosaic.Lib.Pipeline.ValueKit
public import Idealize.ShloMosaic.Lib.Claim
public import proofs.«01_k».proof.Defs

@[expose] public section

set_option maxRecDepth 16384

noncomputable section

open Idealize.ShloMosaic Idealize.ShloMosaic.TcCoe Idealize.SL.Sem
open Idealize.ShloMosaic.Pipeline (Dat)

namespace Cert.AdamwFfnIn

open Cert.OwnAndOthers Cert.Kernel19Ideal Cert.Kernel19Ideal.Gen

variable (m : (ℓ : Loc nD τ sig) → Buf (Elt Ideal) ℓ)
variable (x0 : (⟨Cert.Reference19Ideal.S8x5632x1024, .bf16⟩ : BufTy).Contents (Elt Ideal)) (x1 : (⟨Cert.Reference19Ideal.S5632x1024, .bf16⟩ : BufTy).Contents (Elt Ideal))
  (x2 x3 x4 : (⟨Cert.Reference19Ideal.S1024x5632, .f32⟩ : BufTy).Contents (Elt Ideal))

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] :=
  (by decide +kernel : ∀ t : Fin grid0.N, _)

theorem row_lt (t : Fin cfg0.N) (y : Fin 352) : t.val * 352 + y.val < 704 := by
  have h : t.val < 2 := lt_of_lt_of_eq t.isLt N_0
  omega

open Cert.Reference19Ideal.Read in
theorem holder : ∀ r : Fin 5632, Cert.Reference19Ideal.Read.val_main_v4 (F := Ideal) (ix1 r) = BitVec.ofNat 32 (r.val / 704) := by
  have h : ∀ r : Fin 5632, IntOp.divsi ArithUnit.host (BitVec.ofNat 32 r.val) (BitVec.ofNat 32 704) = BitVec.ofNat 32 (r.val / 704) := by decide +kernel
  intro r
  pointwise [val_main_v4, val_main_v3, val_main_v2, val_main_c]
  exact h r

open Cert.Reference19Ideal.Read in
/-- the whole gradient at one row: the part of the device that holds the row, and the others' -/
theorem grad (c : Fin 8) (r : Fin 5632) (q : Fin 1024) (hc : r.val / 704 = c.val) :
    val_main_v13 (F := Ideal) x0 x1 (ix2 r q) = x1 (ix2 r q) + ∑ s : Fin 8, if s = c then 0 else x0 (ix3 s r q) := by
  pointwise [val_main_v13, val_main_v12, val_main_v11, val_main_v10, val_main_v9, val_main_v8, val_main_v7, val_main_v6, val_main_v5, val_main_v1, val_main_v0, val_main_call0_v2, val_main_call0_v1, val_main_call0_v0, val_main_cst, val_main_cst_0]
  refine congrArg (fun z : EReal => x1 (ix2 r q) + z) (Finset.sum_congr rfl fun s _ => ?_)
  rw [holder, hc]
  refine (other c s _ _).trans ?_
  split
  · simp only [id_eq]; pointwise []
  · rfl

/-- what device `c` holds of the whole arrays -/
structure Held (c : Dev nD) : Prop where
  h0 : m ((c : Thread nD τ).loc main_arg0) = Layout.block ⟨3, ![8, 704, 1024]⟩ ⟨3, ![8, 5632, 1024]⟩ 1 8 c x0
  h1 : m ((c : Thread nD τ).loc main_arg1) = Layout.block ⟨2, ![704, 1024]⟩ ⟨2, ![5632, 1024]⟩ 0 8 c x1
  h2 : m ((c : Thread nD τ).loc main_arg2) = Layout.block ⟨2, ![1024, 704]⟩ ⟨2, ![1024, 5632]⟩ 1 8 c x2
  h3 : m ((c : Thread nD τ).loc main_arg3) = Layout.block ⟨2, ![1024, 704]⟩ ⟨2, ![1024, 5632]⟩ 1 8 c x3
  h4 : m ((c : Thread nD τ).loc main_arg4) = Layout.block ⟨2, ![1024, 704]⟩ ⟨2, ![1024, 5632]⟩ 1 8 c x4

variable {m x0 x1 x2 x3 x4}

theorem rd0 {c : Dev nD} (H : Held m x0 x1 x2 x3 x4 c) (t : Fin cfg0.N) (s : Fin 8) (p : Fin 352) (q : Fin 1024) (r : Fin 5632)
    (hr : r.val = c.val * 704 + (t.val * 352 + p.val)) : iblk m c 0 t (ix3 s p q) = x0 (ix3 s r q) := by
  have e : iblk m c 0 t (ix3 s p q) = m ((c : Thread nD τ).loc main_arg0) (ix3 s ⟨t.val * 352 + p.val, row_lt t p⟩ q) := by
    blk_point [iblk, V_main_arg0, idx t]
  rw [e, H.h0, Layout.block_apply]
  refine congrArg x0 (funext fun a => Fin.ext ?_)
  fin_cases a
  · rfl
  · exact hr.symm
  · rfl

theorem rd1 {c : Dev nD} (H : Held m x0 x1 x2 x3 x4 c) (t : Fin cfg0.N) (p : Fin 352) (q : Fin 1024) (r : Fin 5632)
    (hr : r.val = c.val * 704 + (t.val * 352 + p.val)) : iblk m c 1 t (ix2 p q) = x1 (ix2 r q) := by
  have e : iblk m c 1 t (ix2 p q) = m ((c : Thread nD τ).loc main_arg1) (ix2 ⟨t.val * 352 + p.val, row_lt t p⟩ q) := by
    blk_point [iblk, V_main_arg1, idx t]
  rw [e, H.h1, Layout.block_apply]
  refine congrArg x1 (funext fun a => Fin.ext ?_)
  fin_cases a
  · exact hr.symm
  · rfl

theorem rd2 {c : Dev nD} (H : Held m x0 x1 x2 x3 x4 c) (t : Fin cfg0.N) (p : Fin 352) (q : Fin 1024) (r : Fin 5632)
    (hr : r.val = c.val * 704 + (t.val * 352 + p.val)) : iblk m c 2 t (ix2 p q) = x2 (ix2 q r) := by
  have e : iblk m c 2 t (ix2 p q) = m ((c : Thread nD τ).loc main_arg2) (ix2 q ⟨t.val * 352 + p.val, row_lt t p⟩) := by
    blk_point [iblk, V, idx t]
  rw [e, H.h2, Layout.block_apply]
  refine congrArg x2 (funext fun a => Fin.ext ?_)
  fin_cases a
  · rfl
  · exact hr.symm

theorem rd3 {c : Dev nD} (H : Held m x0 x1 x2 x3 x4 c) (t : Fin cfg0.N) (p : Fin 352) (q : Fin 1024) (r : Fin 5632)
    (hr : r.val = c.val * 704 + (t.val * 352 + p.val)) : iblk m c 3 t (ix2 p q) = x3 (ix2 q r) := by
  have e : iblk m c 3 t (ix2 p q) = m ((c : Thread nD τ).loc main_arg3) (ix2 q ⟨t.val * 352 + p.val, row_lt t p⟩) := by
    blk_point [iblk, V, idx t]
  rw [e, H.h3, Layout.block_apply]
  refine congrArg x3 (funext fun a => Fin.ext ?_)
  fin_cases a
  · rfl
  · exact hr.symm

theorem rd4 {c : Dev nD} (H : Held m x0 x1 x2 x3 x4 c) (t : Fin cfg0.N) (p : Fin 352) (q : Fin 1024) (r : Fin 5632)
    (hr : r.val = c.val * 704 + (t.val * 352 + p.val)) : iblk m c 4 t (ix2 p q) = x4 (ix2 q r) := by
  have e : iblk m c 4 t (ix2 p q) = m ((c : Thread nD τ).loc main_arg4) (ix2 q ⟨t.val * 352 + p.val, row_lt t p⟩) := by
    blk_point [iblk, V, idx t]
  rw [e, H.h4, Layout.block_apply]
  refine congrArg x4 (funext fun a => Fin.ext ?_)
  fin_cases a
  · rfl
  · exact hr.symm

theorem out_row (c : Dev nD) (t : Fin cfg0.N) (y : Fin 352) : c.val * 704 + (t.val * 352 + y.val) < 5632 := by
  have h := row_lt t y
  have hc : c.val < 8 := c.isLt
  omega

open Cert.Reference19Ideal.Read in
/-- the gradient the kernel adds up, at one row of its block -/
theorem summed {c : Dev nD} (H : Held m x0 x1 x2 x3 x4 c) (t : Fin cfg0.N) (p : Fin 352) (q : Fin 1024) (r : Fin 5632)
    (hr : r.val = c.val * 704 + (t.val * 352 + p.val)) :
    (outsAt0 m c t).1 (ix2 p q) = val_main_v13 (F := Ideal) x0 x1 (ix2 r q) := by
  unfold outsAt0
  frame_out
  pointwise [k0_pay7, k0_pay6, k0_pay5, k0_pay4, k0_pay3, k0_pay2]
  refine (total c _ (fun s => iblk m c 0 t (ix3 s p q))).trans ?_
  have h := row_lt t p
  rw [rd1 H t p q r hr, grad x0 x1 c r q (by omega)]
  refine congrArg (fun z : EReal => x1 (ix2 r q) + z) (Finset.sum_congr rfl fun s _ => ?_)
  rw [rd0 H t s p q r hr]

section
variable {p : Fin 352} {q : Fin 1024} {r : Fin 5632} (v12 : BitVec 32) (v61 : FVec Ideal S352x1024 .f32) (v62 : BitVec 1) (v64 : FVec Ideal S352x1024 .bf16) (v66 : FVec Ideal S352x1024 .bf16) (v71 : Vec Ideal S352x1024 .bf16) (v73 : Vec Ideal S1x352x1024 .bf16)
  (g : k0_pay7 v12 v61 v62 v64 v66 v71 v73 (ix2 p q) = Cert.Reference19Ideal.Read.val_main_v13 (F := Ideal) x0 x1 (ix2 r q))
include g

open Cert.Reference19Ideal.Read in
theorem mean (v81 : Vec Ideal S352x1024 .f32) (h : v81 (ix2 p q) = x3 (ix2 q r)) :
    k0_pay9 v12 v61 v62 v64 v66 v71 v73 v81 (ix2 p q) = val_main_v21 (F := Ideal) x0 x1 x3 (ix2 r q) := by
  pointwise [k0_pay9, val_main_v21, val_main_v20, val_main_v19, val_main_v18, val_main_v17, val_main_v15, val_main_cst_1, val_main_cst_2, val_main_cst_3, val_main_cst_4, val_main_cst_5, val_main_cst_6, val_main_cst_7, val_main_cst_8, val_main_cst_9]
  rw [g, h]

open Cert.Reference19Ideal.Read in
theorem square (v83 : Vec Ideal S352x1024 .f32) (h : v83 (ix2 p q) = x4 (ix2 q r)) :
    k0_pay10 v12 v61 v62 v64 v66 v71 v73 v83 (ix2 p q) = val_main_v27 (F := Ideal) x0 x1 x4 (ix2 r q) := by
  pointwise [k0_pay10, val_main_v27, val_main_v26, val_main_v25, val_main_v24, val_main_v23, val_main_v22, val_main_v16, val_main_cst_1, val_main_cst_2, val_main_cst_3, val_main_cst_4, val_main_cst_5, val_main_cst_6, val_main_cst_7, val_main_cst_8, val_main_cst_9]
  rw [g, h]

open Cert.Reference19Ideal.Read in
theorem step (v79 v81 v83 : Vec Ideal S352x1024 .f32) (h2 : v79 (ix2 p q) = x2 (ix2 q r)) (h3 : v81 (ix2 p q) = x3 (ix2 q r)) (h4 : v83 (ix2 p q) = x4 (ix2 q r)) :
    k0_pay1 (k0_pay8 v79) (k0_pay11 v12 v61 v62 v64 v66 v71 v73 v81 v83) (Scalar.ofBits .f32 0x3C23D70A#32) (ix2 p q) = val_main_v40 (F := Ideal) x0 x1 x2 x3 x4 (ix2 r q) := by
  pointwise [k0_pay1, k0_pay8, k0_pay11, val_main_v40, val_main_v39, val_main_v38, val_main_v37, val_main_v36, val_main_v35, val_main_v34, val_main_v33, val_main_v32, val_main_v31, val_main_v30, val_main_v29, val_main_v28, val_main_v14, val_main_cst_1, val_main_cst_2, val_main_cst_3, val_main_cst_4, val_main_cst_5, val_main_cst_6, val_main_cst_7, val_main_cst_8, val_main_cst_9]
  rw [mean v12 v61 v62 v64 v66 v71 v73 g v81 h3, square v12 v61 v62 v64 v66 v71 v73 g v83 h4, h2]

end

open Cert.Reference19Ideal.Read in
theorem final5 {c : Dev nD} (H : Held m x0 x1 x2 x3 x4 c) : (dats m 0 c).arrAt 5 cfg0.N = Layout.block ⟨2, ![704, 1024]⟩ ⟨2, ![5632, 1024]⟩ 0 8 c (val_main_v13 (F := Ideal) x0 x1) := by
  refine (dats m 0 c).arrAt_eq_of_covers 5 _ (by decide +kernel) fun t hf y => ?_
  blk_simp
  rw [after0_5]
  idx_vars y
  rw [Layout.block_apply]
  refine Eq.trans (b := val_main_v13 (F := Ideal) x0 x1 (ix2 ⟨_, out_row c t y0⟩ y1)) ?_ (congrArg (val_main_v13 (F := Ideal) x0 x1) (funext fun a => Fin.ext ?_))
  · skip
    exact summed H t y0 y1 ⟨_, out_row c t y0⟩ rfl
  · have e : ((cfg0.win 5).blk t).view.emb (ix2 y0 y1) = ix2 ⟨t.val * 352 + y0.val, row_lt t y0⟩ y1 := by blk_ext [idx t]
    refine Eq.trans ?_ (congrArg (fun j => (Layout.Tiles.idx _ c j a).val) e.symm)
    fin_cases a <;> rfl

open Cert.Reference19Ideal.Read in
theorem final6 {c : Dev nD} (H : Held m x0 x1 x2 x3 x4 c) : (dats m 0 c).arrAt 6 cfg0.N = Layout.block ⟨2, ![704, 1024]⟩ ⟨2, ![5632, 1024]⟩ 0 8 c (val_main_v40 (F := Ideal) x0 x1 x2 x3 x4) := by
  refine (dats m 0 c).arrAt_eq_of_covers 6 _ (by decide +kernel) fun t hf y => ?_
  blk_simp
  rw [after0_6]
  idx_vars y
  rw [Layout.block_apply]
  refine Eq.trans (b := val_main_v40 (F := Ideal) x0 x1 x2 x3 x4 (ix2 ⟨_, out_row c t y0⟩ y1)) ?_ (congrArg (val_main_v40 (F := Ideal) x0 x1 x2 x3 x4) (funext fun a => Fin.ext ?_))
  · skip
    unfold outsAt0
    frame_out
    refine step _ _ _ _ _ _ _ (Eq.trans (Eq.symm ?_) (summed H t y0 y1 ⟨_, out_row c t y0⟩ rfl)) _ _ _ (rd2 H t y0 y1 ⟨_, out_row c t y0⟩ rfl) (rd3 H t y0 y1 ⟨_, out_row c t y0⟩ rfl) (rd4 H t y0 y1 ⟨_, out_row c t y0⟩ rfl)
    unfold outsAt0
    frame_out
  · have e : ((cfg0.win 6).blk t).view.emb (ix2 y0 y1) = ix2 ⟨t.val * 352 + y0.val, row_lt t y0⟩ y1 := by blk_ext [idx t]
    refine Eq.trans ?_ (congrArg (fun j => (Layout.Tiles.idx _ c j a).val) e.symm)
    fin_cases a <;> rfl

open Cert.Reference19Ideal.Read in
theorem final7 {c : Dev nD} (H : Held m x0 x1 x2 x3 x4 c) : (dats m 0 c).arrAt 7 cfg0.N = Layout.block ⟨2, ![704, 1024]⟩ ⟨2, ![5632, 1024]⟩ 0 8 c (val_main_v21 (F := Ideal) x0 x1 x3) := by
  refine (dats m 0 c).arrAt_eq_of_covers 7 _ (by decide +kernel) fun t hf y => ?_
  blk_simp
  rw [after0_7]
  idx_vars y
  rw [Layout.block_apply]
  refine Eq.trans (b := val_main_v21 (F := Ideal) x0 x1 x3 (ix2 ⟨_, out_row c t y0⟩ y1)) ?_ (congrArg (val_main_v21 (F := Ideal) x0 x1 x3) (funext fun a => Fin.ext ?_))
  · skip
    unfold outsAt0
    frame_out
    refine mean _ _ _ _ _ _ _ (Eq.trans (Eq.symm ?_) (summed H t y0 y1 ⟨_, out_row c t y0⟩ rfl)) _ (rd3 H t y0 y1 ⟨_, out_row c t y0⟩ rfl)
    unfold outsAt0
    frame_out
  · have e : ((cfg0.win 7).blk t).view.emb (ix2 y0 y1) = ix2 ⟨t.val * 352 + y0.val, row_lt t y0⟩ y1 := by blk_ext [idx t]
    refine Eq.trans ?_ (congrArg (fun j => (Layout.Tiles.idx _ c j a).val) e.symm)
    fin_cases a <;> rfl

open Cert.Reference19Ideal.Read in
theorem final8 {c : Dev nD} (H : Held m x0 x1 x2 x3 x4 c) : (dats m 0 c).arrAt 8 cfg0.N = Layout.block ⟨2, ![704, 1024]⟩ ⟨2, ![5632, 1024]⟩ 0 8 c (val_main_v27 (F := Ideal) x0 x1 x4) := by
  refine (dats m 0 c).arrAt_eq_of_covers 8 _ (by decide +kernel) fun t hf y => ?_
  blk_simp
  rw [after0_8]
  idx_vars y
  rw [Layout.block_apply]
  refine Eq.trans (b := val_main_v27 (F := Ideal) x0 x1 x4 (ix2 ⟨_, out_row c t y0⟩ y1)) ?_ (congrArg (val_main_v27 (F := Ideal) x0 x1 x4) (funext fun a => Fin.ext ?_))
  · skip
    unfold outsAt0
    frame_out
    refine square _ _ _ _ _ _ _ (Eq.trans (Eq.symm ?_) (summed H t y0 y1 ⟨_, out_row c t y0⟩ rfl)) _ (rd4 H t y0 y1 ⟨_, out_row c t y0⟩ rfl)
    unfold outsAt0
    frame_out
  · have e : ((cfg0.win 8).blk t).view.emb (ix2 y0 y1) = ix2 ⟨t.val * 352 + y0.val, row_lt t y0⟩ y1 := by blk_ext [idx t]
    refine Eq.trans ?_ (congrArg (fun j => (Layout.Tiles.idx _ c j a).val) e.symm)
    fin_cases a <;> rfl

open Cert.Reference19Ideal.Read in
/-- each device's results are its parts of the reference's -/
theorem algebraic : Cert.algebraic_Kernel19Ideal_Reference19Ideal := by
  intro m g m' g' _ hagree
  have H : ∀ c, Held m (m' ((0 : Dev Cert.Reference19Ideal.nD).tc.loc Cert.Reference19Ideal.main_arg0)) (m' ((0 : Dev Cert.Reference19Ideal.nD).tc.loc Cert.Reference19Ideal.main_arg1)) (m' ((0 : Dev Cert.Reference19Ideal.nD).tc.loc Cert.Reference19Ideal.main_arg2)) (m' ((0 : Dev Cert.Reference19Ideal.nD).tc.loc Cert.Reference19Ideal.main_arg3)) (m' ((0 : Dev Cert.Reference19Ideal.nD).tc.loc Cert.Reference19Ideal.main_arg4)) c := fun c =>
    ⟨(hagree c).1, (hagree c).2.1, (hagree c).2.2.1, (hagree c).2.2.2.1, (hagree c).2.2.2.2⟩
  refine ⟨val_main_v13 (F := Ideal) (m' ((0 : Dev Cert.Reference19Ideal.nD).tc.loc Cert.Reference19Ideal.main_arg0)) (m' ((0 : Dev Cert.Reference19Ideal.nD).tc.loc Cert.Reference19Ideal.main_arg1)), val_main_v40 (F := Ideal) (m' ((0 : Dev Cert.Reference19Ideal.nD).tc.loc Cert.Reference19Ideal.main_arg0)) (m' ((0 : Dev Cert.Reference19Ideal.nD).tc.loc Cert.Reference19Ideal.main_arg1)) (m' ((0 : Dev Cert.Reference19Ideal.nD).tc.loc Cert.Reference19Ideal.main_arg2)) (m' ((0 : Dev Cert.Reference19Ideal.nD).tc.loc Cert.Reference19Ideal.main_arg3)) (m' ((0 : Dev Cert.Reference19Ideal.nD).tc.loc Cert.Reference19Ideal.main_arg4)), val_main_v21 (F := Ideal) (m' ((0 : Dev Cert.Reference19Ideal.nD).tc.loc Cert.Reference19Ideal.main_arg0)) (m' ((0 : Dev Cert.Reference19Ideal.nD).tc.loc Cert.Reference19Ideal.main_arg1)) (m' ((0 : Dev Cert.Reference19Ideal.nD).tc.loc Cert.Reference19Ideal.main_arg3)), val_main_v27 (F := Ideal) (m' ((0 : Dev Cert.Reference19Ideal.nD).tc.loc Cert.Reference19Ideal.main_arg0)) (m' ((0 : Dev Cert.Reference19Ideal.nD).tc.loc Cert.Reference19Ideal.main_arg1)) (m' ((0 : Dev Cert.Reference19Ideal.nD).tc.loc Cert.Reference19Ideal.main_arg4)), ?_, ?_⟩
  · refine (θ_run _ _ _).mono (fun r h c => ?_) (Cert.Kernel19Ideal.Value.run_blocks m g)
    obtain ⟨h5, h6, h7, h8, hrest⟩ := h c
    exact ⟨h5.trans (final5 (H c)), h6.trans (final6 (H c)), h7.trans (final7 (H c)), h8.trans (final8 (H c)), hrest⟩
  · refine (θ_run _ _ _).mono (fun r h => ?_) (Cert.Reference19Ideal.Value.run m' g')
    obtain ⟨h5, h6, h7, h8, hrest⟩ := h 0
    exact ⟨h5.trans (val_main_v13_eq _ _), h6.trans (val_main_v40_eq _ _ _ _ _), h7.trans (val_main_v21_eq _ _ _), h8.trans (val_main_v27_eq _ _ _), hrest⟩

end Cert.AdamwFfnIn
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel.Frame
public import proofs.«01_k».proof.Proof.Gen.KernelIdeal.Frame
public import proofs.«01_k».proof.Proof.Gen.ReferenceIdeal.Read
public import proofs.«01_k».proof.Proof.Gen.KernelIdeal.Value
public import proofs.«01_k».proof.Proof.MergeGate
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Kernel2.Frame
public import proofs.«01_k».proof.Proof.Gen.Kernel2Ideal.Frame
public import proofs.«01_k».proof.Proof.Gen.Reference2Ideal.Read
public import proofs.«01_k».proof.Proof.Gen.Kernel2Ideal.Value
public import proofs.«01_k».proof.Proof.InprojBwd
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Kernel3.Frame
public import proofs.«01_k».proof.Proof.Gen.Kernel3Ideal.Frame
public import proofs.«01_k».proof.Proof.Gen.Reference3Ideal.Read
public import proofs.«01_k».proof.Proof.Gen.Kernel3Ideal.Value
public import proofs.«01_k».proof.Proof.FfnInBwd
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Kernel4.Frame
public import proofs.«01_k».proof.Proof.Gen.Kernel4Ideal.Frame
public import proofs.«01_k».proof.Proof.Gen.Reference4Ideal.Read
public import proofs.«01_k».proof.Proof.Gen.Kernel4Ideal.Value
public import proofs.«01_k».proof.Proof.FfnDownBwd
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Kernel5.Frame
public import proofs.«01_k».proof.Proof.Gen.Kernel5Ideal.Frame
public import proofs.«01_k».proof.Proof.Gen.Reference5Ideal.Read
public import proofs.«01_k».proof.Proof.Gen.Kernel5Ideal.Value
public import proofs.«01_k».proof.Proof.DwFfnIn
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Kernel6.Frame
public import proofs.«01_k».proof.Proof.Gen.Kernel6Ideal.Frame
public import proofs.«01_k».proof.Proof.Gen.Reference6Ideal.Read
public import proofs.«01_k».proof.Proof.Gen.Kernel6Ideal.Value
public import proofs.«01_k».proof.Proof.DwFfnDown
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Gen.Kernel7.Frame
public import proofs.«01_k».proof.Proof.Gen.Kernel7Ideal.Frame
public import proofs.«01_k».proof.Proof.Gen.Reference7Ideal.Read
public import proofs.«01_k».proof.Proof.Gen.Kernel7Ideal.Value
public import proofs.«01_k».proof.Proof.DwSquare
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import proofs.«01_k».proof.Proof.Gen.Kernel8.Frame
public import proofs.«01_k».proof.Proof.Gen.Kernel8Ideal.Frame
public import proofs.«01_k».proof.Proof.Gen.Reference8Ideal.Read
public import proofs.«01_k».proof.Proof.Gen.Kernel8Ideal.Value
public import proofs.«01_k».proof.Proof.DwWide
public import proofs.«01_k».proof.Proof.Gen.Kernel13
public import proofs.«01_k».proof.Proof.Gen.Kernel13Ideal
public import proofs.«01_k».proof.Proof.Gen.Reference13Ideal
public import proofs.«01_k».proof.Proof.Gen.Reference13Ideal.Run
public import proofs.«01_k».proof.Proof.Gen.Kernel13.Frame
public import proofs.«01_k».proof.Proof.Gen.Kernel13Ideal.Frame
public import proofs.«01_k».proof.Proof.Gen.Reference13Ideal.Read
public import proofs.«01_k».proof.Proof.Gen.Kernel13Ideal.Value
public import proofs.«01_k».proof.Proof.DwInKv
public import proofs.«01_k».proof.Proof.Gen.Kernel20
public import proofs.«01_k».proof.Proof.Gen.Kernel20Ideal
public import proofs.«01_k».proof.Proof.Gen.Reference20Ideal
public import proofs.«01_k».proof.Proof.Gen.Reference20Ideal.Run
public import proofs.«01_k».proof.Proof.Gen.Kernel20.Frame
public import proofs.«01_k».proof.Proof.Gen.Kernel20Ideal.Frame
public import proofs.«01_k».proof.Proof.Gen.Reference20Ideal.Read
public import proofs.«01_k».proof.Proof.Gen.Kernel20Ideal.Value
public import proofs.«01_k».proof.Proof.InRows
public import proofs.«01_k».proof.Proof.Gen.Kernel9
public import proofs.«01_k».proof.Proof.Gen.Kernel9Ideal
public import proofs.«01_k».proof.Proof.Gen.Reference9Ideal
public import proofs.«01_k».proof.Proof.Gen.Reference9Ideal.Run
public import proofs.«01_k».proof.Proof.Gen.Kernel9.Frame
public import proofs.«01_k».proof.Proof.Gen.Kernel9Ideal.Frame
public import proofs.«01_k».proof.Proof.Gen.Reference9Ideal.Read
public import proofs.«01_k».proof.Proof.Gen.Kernel9Ideal.Value
public import proofs.«01_k».proof.Proof.Inproj
public import proofs.«01_k».proof.Proof.Gen.Kernel10
public import proofs.«01_k».proof.Proof.Gen.Kernel10Ideal
public import proofs.«01_k».proof.Proof.Gen.Reference10Ideal
public import proofs.«01_k».proof.Proof.Gen.Reference10Ideal.Run
public import proofs.«01_k».proof.Proof.Gen.Kernel10.Frame
public import proofs.«01_k».proof.Proof.Gen.Kernel10Ideal.Frame
public import proofs.«01_k».proof.Proof.Gen.Reference10Ideal.Read
public import proofs.«01_k».proof.Proof.Gen.Kernel10Ideal.Value
public import proofs.«01_k».proof.Proof.Merge
public import proofs.«01_k».proof.Proof.Gen.Kernel12
public import proofs.«01_k».proof.Proof.Gen.Kernel12Ideal
public import proofs.«01_k».proof.Proof.Gen.Reference12Ideal
public import proofs.«01_k».proof.Proof.Gen.Reference12Ideal.Run
public import proofs.«01_k».proof.Proof.Gen.Kernel12.Frame
public import proofs.«01_k».proof.Proof.Gen.Kernel12Ideal.Frame
public import proofs.«01_k».proof.Proof.Gen.Reference12Ideal.Read
public import proofs.«01_k».proof.Proof.Gen.Kernel12Ideal.Value
public import proofs.«01_k».proof.Proof.FfnIn
public import proofs.«01_k».proof.Proof.Gen.Kernel11
public import proofs.«01_k».proof.Proof.Gen.Kernel11Ideal
public import proofs.«01_k».proof.Proof.Gen.Reference11Ideal
public import proofs.«01_k».proof.Proof.Gen.Reference11Ideal.Run
public import proofs.«01_k».proof.Proof.Gen.Kernel11.Frame
public import proofs.«01_k».proof.Proof.Gen.Kernel11Ideal.Frame
public import proofs.«01_k».proof.Proof.Gen.Reference11Ideal.Read
public import proofs.«01_k».proof.Proof.Gen.Kernel11Ideal.Value
public import proofs.«01_k».proof.Proof.FfnOut
public import proofs.«01_k».proof.Proof.Gen.Kernel14
public import proofs.«01_k».proof.Proof.Gen.Kernel14Ideal
public import proofs.«01_k».proof.Proof.Gen.Reference14Ideal
public import proofs.«01_k».proof.Proof.Gen.Reference14Ideal.Run
public import proofs.«01_k».proof.Proof.Gen.Kernel14.Frame
public import proofs.«01_k».proof.Proof.Gen.Kernel14Ideal.Frame
public import proofs.«01_k».proof.Proof.Gen.Reference14Ideal.Read
public import proofs.«01_k».proof.Proof.Gen.Kernel14Ideal.Value
public import proofs.«01_k».proof.Proof.AdamwSmall
public import proofs.«01_k».proof.Proof.Gen.Kernel15
public import proofs.«01_k».proof.Proof.Gen.Kernel15Ideal
public import proofs.«01_k».proof.Proof.Gen.Reference15Ideal
public import proofs.«01_k».proof.Proof.Gen.Reference15Ideal.Run
public import proofs.«01_k».proof.Proof.Gen.Kernel15.Frame
public import proofs.«01_k».proof.Proof.Gen.Kernel15Ideal.Frame
public import proofs.«01_k».proof.Proof.Gen.Reference15Ideal.Read
public import proofs.«01_k».proof.Proof.Gen.Kernel15Ideal.Value
public import proofs.«01_k».proof.Proof.AdamwConvW
public import proofs.«01_k».proof.Proof.Gen.Kernel16
public import proofs.«01_k».proof.Proof.Gen.Kernel16Ideal
public import proofs.«01_k».proof.Proof.Gen.Reference16Ideal
public import proofs.«01_k».proof.Proof.Gen.Reference16Ideal.Run
public import proofs.«01_k».proof.Proof.Gen.Kernel16.Frame
public import proofs.«01_k».proof.Proof.Gen.Kernel16Ideal.Frame
public import proofs.«01_k».proof.Proof.Gen.Reference16Ideal.Read
public import proofs.«01_k».proof.Proof.Gen.Kernel16Ideal.Value
public import proofs.«01_k».proof.Proof.AdamwSum
public import proofs.«01_k».proof.Proof.Gen.Kernel17
public import proofs.«01_k».proof.Proof.Gen.Kernel17Ideal
public import proofs.«01_k».proof.Proof.Gen.Reference17Ideal
public import proofs.«01_k».proof.Proof.Gen.Reference17Ideal.Run
public import proofs.«01_k».proof.Proof.Gen.Kernel17.Frame
public import proofs.«01_k».proof.Proof.Gen.Kernel17Ideal.Frame
public import proofs.«01_k».proof.Proof.Gen.Reference17Ideal.Read
public import proofs.«01_k».proof.Proof.Gen.Kernel17Ideal.Value
public import proofs.«01_k».proof.Proof.AdamwFfnDown
public import proofs.«01_k».proof.Proof.Gen.Kernel18
public import proofs.«01_k».proof.Proof.Gen.Kernel18Ideal
public import proofs.«01_k».proof.Proof.Gen.Reference18Ideal
public import proofs.«01_k».proof.Proof.Gen.Reference18Ideal.Run
public import proofs.«01_k».proof.Proof.Gen.Kernel18.Frame
public import proofs.«01_k».proof.Proof.Gen.Kernel18Ideal.Frame
public import proofs.«01_k».proof.Proof.Gen.Reference18Ideal.Read
public import proofs.«01_k».proof.Proof.Gen.Kernel18Ideal.Value
public import proofs.«01_k».proof.Proof.AdamwIn
public import proofs.«01_k».proof.Proof.Gen.Kernel19
public import proofs.«01_k».proof.Proof.Gen.Kernel19Ideal
public import proofs.«01_k».proof.Proof.Gen.Reference19Ideal
public import proofs.«01_k».proof.Proof.Gen.Reference19Ideal.Run
public import proofs.«01_k».proof.Proof.Gen.Kernel19.Frame
public import proofs.«01_k».proof.Proof.Gen.Kernel19Ideal.Frame
public import proofs.«01_k».proof.Proof.Gen.Reference19Ideal.Read
public import proofs.«01_k».proof.Proof.Gen.Kernel19Ideal.Value
public import proofs.«01_k».proof.Proof.AdamwFfnIn
public import Idealize.ShloMosaic.Adequacy
public import Idealize.ShloMosaic.Init

@[expose] public section

noncomputable section

namespace Cert.Proof

open Idealize.ShloMosaic Idealize.SL.Sem

/-- The reference of the gated merge's gradient runs to an end. -/
theorem frame_r : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/-- The reference of the input projection's gradient runs to an end. -/
theorem frame_r2 : Cert.quiescent_Reference2Ideal := fun m ρ _ =>
  (θ_run Cert.Reference2Ideal.defs _ _).mono
    (fun r h => ⟨fun c => (h c).2.2, sem_eq_zero_of_no_sems (by decide) r.2⟩)
    (Cert.Reference2Ideal.Value.run (F := Ideal) m ρ)

/-- The reference of the feed-forward input projection's gradient runs to an end. -/
theorem frame_r3 : Cert.quiescent_Reference3Ideal := fun m ρ _ =>
  (θ_run Cert.Reference3Ideal.defs _ _).mono
    (fun r h => ⟨fun c => (h c).2.2.2, sem_eq_zero_of_no_sems (by decide) r.2⟩)
    (Cert.Reference3Ideal.Value.run (F := Ideal) m ρ)

/-- The reference of the feed-forward output projection's gradient runs to an end. -/
theorem frame_r4 : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- The reference of the gradient of w_ffn_in runs to an end. -/
theorem frame_r5 : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- The reference of the gradient of w_ffn_down runs to an end. -/
theorem frame_r6 : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- The reference of the gradient of a square weight runs to an end. -/
theorem frame_r7 : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

/-- The reference of the gradient of 2048 rows of w_in runs to an end. -/
theorem frame_r8 : Cert.quiescent_Reference8Ideal := fun m ρ _ =>
  (θ_run Cert.Reference8Ideal.defs _ _).mono
    (fun r h => ⟨fun c => (h c).2, sem_eq_zero_of_no_sems (by decide) r.2⟩)
    (Cert.Reference8Ideal.Value.run (F := Ideal) m ρ)

/-- The reference of the gradient of the key and value rows of w_in runs to an end. -/
theorem frame_r13 : Cert.quiescent_Reference13Ideal := fun m ρ _ =>
  (θ_run Cert.Reference13Ideal.defs _ _).mono
    (fun r h => ⟨fun c => (h c).2, sem_eq_zero_of_no_sems (by decide) r.2⟩)
    (Cert.Reference13Ideal.Value.run (F := Ideal) m ρ)

/-- The reference of the rows of the gradient of w_in runs to an end. -/
theorem frame_r20 : Cert.quiescent_Reference20Ideal := fun m ρ _ =>
  (θ_run Cert.Reference20Ideal.defs _ _).mono
    (fun r h => ⟨fun c => (h c).2, sem_eq_zero_of_no_sems (by decide) r.2⟩)
    (Cert.Reference20Ideal.Value.run (F := Ideal) m ρ)

/-- The reference of the input projection runs to an end. -/
theorem frame_r9 : Cert.quiescent_Reference9Ideal := fun m ρ _ =>
  (θ_run Cert.Reference9Ideal.defs _ _).mono
    (fun r h => ⟨fun c => (h c).2.2, sem_eq_zero_of_no_sems (by decide) r.2⟩)
    (Cert.Reference9Ideal.Value.run (F := Ideal) m ρ)

/-- The reference of the gated merge runs to an end. -/
theorem frame_r10 : Cert.quiescent_Reference10Ideal := fun m ρ _ =>
  (θ_run Cert.Reference10Ideal.defs _ _).mono
    (fun r h => ⟨fun c => (h c).2.2.2.2.2, sem_eq_zero_of_no_sems (by decide) r.2⟩)
    (Cert.Reference10Ideal.Value.run (F := Ideal) m ρ)

/-- The reference of the feed-forward's first half runs to an end. -/
theorem frame_r12 : Cert.quiescent_Reference12Ideal := fun m ρ _ =>
  (θ_run Cert.Reference12Ideal.defs _ _).mono
    (fun r h => ⟨fun c => (h c).2.2, sem_eq_zero_of_no_sems (by decide) r.2⟩)
    (Cert.Reference12Ideal.Value.run (F := Ideal) m ρ)

/-- The reference of the loss and its cotangent runs to an end. -/
theorem frame_r11 : Cert.quiescent_Reference11Ideal := fun m ρ _ =>
  (θ_run Cert.Reference11Ideal.defs _ _).mono
    (fun r h => ⟨fun c => (h c).2.2.2, sem_eq_zero_of_no_sems (by decide) r.2⟩)
    (Cert.Reference11Ideal.Value.run (F := Ideal) m ρ)

/-- The reference of the optimiser on the packed small weights runs to an end. -/
theorem frame_r14 : Cert.quiescent_Reference14Ideal := fun m ρ _ =>
  (θ_run Cert.Reference14Ideal.defs _ _).mono
    (fun r h => ⟨fun c => (h c).2.2.2, sem_eq_zero_of_no_sems (by decide) r.2⟩)
    (Cert.Reference14Ideal.Value.run (F := Ideal) m ρ)

/-- The reference of the optimiser on the convolution's weights runs to an end. -/
theorem frame_r15 : Cert.quiescent_Reference15Ideal := fun m ρ _ =>
  (θ_run Cert.Reference15Ideal.defs _ _).mono
    (fun r h => ⟨fun c => (h c).2.2.2, sem_eq_zero_of_no_sems (by decide) r.2⟩)
    (Cert.Reference15Ideal.Value.run (F := Ideal) m ρ)

/-- The reference of the optimiser on a square weight runs to an end. -/
theorem frame_r16 : Cert.quiescent_Reference16Ideal := fun m ρ _ =>
  (θ_run Cert.Reference16Ideal.defs _ _).mono
    (fun r h => ⟨fun c => (h c).2.2.2.2, sem_eq_zero_of_no_sems (by decide) r.2⟩)
    (Cert.Reference16Ideal.Value.run (F := Ideal) m ρ)

/-- The reference of the optimiser on w_ffn_down runs to an end. -/
theorem frame_r17 : Cert.quiescent_Reference17Ideal := fun m ρ _ =>
  (θ_run Cert.Reference17Ideal.defs _ _).mono
    (fun r h => ⟨fun c => (h c).2.2.2.2, sem_eq_zero_of_no_sems (by decide) r.2⟩)
    (Cert.Reference17Ideal.Value.run (F := Ideal) m ρ)

/-- The reference of the optimiser on w_in runs to an end. -/
theorem frame_r18 : Cert.quiescent_Reference18Ideal := fun m ρ _ =>
  (θ_run Cert.Reference18Ideal.defs _ _).mono
    (fun r h => ⟨fun c => (h c).2.2.2.2, sem_eq_zero_of_no_sems (by decide) r.2⟩)
    (Cert.Reference18Ideal.Value.run (F := Ideal) m ρ)

/-- The reference of the optimiser on w_ffn_in runs to an end. -/
theorem frame_r19 : Cert.quiescent_Reference19Ideal := fun m ρ _ =>
  (θ_run Cert.Reference19Ideal.defs _ _).mono
    (fun r h => ⟨fun c => (h c).2.2.2.2, sem_eq_zero_of_no_sems (by decide) r.2⟩)
    (Cert.Reference19Ideal.Value.run (F := Ideal) m ρ)

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel13.Gen.facts,
    Cert.Kernel13Ideal.Gen.facts,
    Cert.Reference13Ideal.Gen.facts,
    Cert.Kernel20.Gen.facts,
    Cert.Kernel20Ideal.Gen.facts,
    Cert.Reference20Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel12.Gen.facts,
    Cert.Kernel12Ideal.Gen.facts,
    Cert.Reference12Ideal.Gen.facts,
    Cert.Kernel11.Gen.facts,
    Cert.Kernel11Ideal.Gen.facts,
    Cert.Reference11Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    fun m ρ _ => Cert.Kernel.Gen.frame m ρ,
    fun m ρ _ => Cert.KernelIdeal.Gen.frame m ρ,
    frame_r,
    fun m ρ _ => Cert.Kernel2.Gen.frame m ρ,
    fun m ρ _ => Cert.Kernel2Ideal.Gen.frame m ρ,
    frame_r2,
    fun m ρ _ => Cert.Kernel3.Gen.frame m ρ,
    fun m ρ _ => Cert.Kernel3Ideal.Gen.frame m ρ,
    frame_r3,
    fun m ρ _ => Cert.Kernel4.Gen.frame m ρ,
    fun m ρ _ => Cert.Kernel4Ideal.Gen.frame m ρ,
    frame_r4,
    fun m ρ _ => Cert.Kernel5.Gen.frame m ρ,
    fun m ρ _ => Cert.Kernel5Ideal.Gen.frame m ρ,
    frame_r5,
    fun m ρ _ => Cert.Kernel6.Gen.frame m ρ,
    fun m ρ _ => Cert.Kernel6Ideal.Gen.frame m ρ,
    frame_r6,
    fun m ρ _ => Cert.Kernel7.Gen.frame m ρ,
    fun m ρ _ => Cert.Kernel7Ideal.Gen.frame m ρ,
    frame_r7,
    fun m ρ _ => Cert.Kernel8.Gen.frame m ρ,
    fun m ρ _ => Cert.Kernel8Ideal.Gen.frame m ρ,
    frame_r8,
    fun m ρ _ => Cert.Kernel13.Gen.frame m ρ,
    fun m ρ _ => Cert.Kernel13Ideal.Gen.frame m ρ,
    frame_r13,
    fun m ρ _ => Cert.Kernel20.Gen.frame m ρ,
    fun m ρ _ => Cert.Kernel20Ideal.Gen.frame m ρ,
    frame_r20,
    fun m ρ _ => Cert.Kernel9.Gen.frame m ρ,
    fun m ρ _ => Cert.Kernel9Ideal.Gen.frame m ρ,
    frame_r9,
    fun m ρ _ => Cert.Kernel10.Gen.frame m ρ,
    fun m ρ _ => Cert.Kernel10Ideal.Gen.frame m ρ,
    frame_r10,
    fun m ρ _ => Cert.Kernel12.Gen.frame m ρ,
    fun m ρ _ => Cert.Kernel12Ideal.Gen.frame m ρ,
    frame_r12,
    fun m ρ _ => Cert.Kernel11.Gen.frame m ρ,
    fun m ρ _ => Cert.Kernel11Ideal.Gen.frame m ρ,
    frame_r11,
    fun m ρ _ => Cert.Kernel14.Gen.frame m ρ,
    fun m ρ _ => Cert.Kernel14Ideal.Gen.frame m ρ,
    frame_r14,
    fun m ρ _ => Cert.Kernel15.Gen.frame m ρ,
    fun m ρ _ => Cert.Kernel15Ideal.Gen.frame m ρ,
    frame_r15,
    fun m ρ _ => Cert.Kernel16.Gen.frame m ρ,
    fun m ρ _ => Cert.Kernel16Ideal.Gen.frame m ρ,
    frame_r16,
    fun m ρ _ => Cert.Kernel17.Gen.frame m ρ,
    fun m ρ _ => Cert.Kernel17Ideal.Gen.frame m ρ,
    frame_r17,
    fun m ρ _ => Cert.Kernel18.Gen.frame m ρ,
    fun m ρ _ => Cert.Kernel18Ideal.Gen.frame m ρ,
    frame_r18,
    fun m ρ _ => Cert.Kernel19.Gen.frame m ρ,
    fun m ρ _ => Cert.Kernel19Ideal.Gen.frame m ρ,
    frame_r19,
    trivial,
    Cert.MergeBwd.algebraic,
    trivial,
    Cert.InprojBwd.algebraic,
    trivial,
    Cert.FfnInBwd.algebraic,
    trivial,
    Cert.FfnDownBwd.algebraic,
    trivial,
    Cert.DwFfnIn.algebraic,
    trivial,
    Cert.DwFfnDown.algebraic,
    trivial,
    Cert.DwSquare.algebraic,
    trivial,
    Cert.DwWide.algebraic,
    trivial,
    Cert.DwInKv.algebraic,
    trivial,
    Cert.InRows.algebraic,
    trivial,
    Cert.Inproj.algebraic,
    trivial,
    Cert.Merge.algebraic,
    trivial,
    Cert.FfnIn.algebraic,
    trivial,
    Cert.FfnOut.algebraic,
    trivial,
    Cert.AdamwSmall.algebraic,
    trivial,
    Cert.AdamwConvW.algebraic,
    trivial,
    Cert.AdamwSum.algebraic,
    trivial,
    Cert.AdamwFfnDown.algebraic,
    trivial,
    Cert.AdamwIn.algebraic,
    trivial,
    Cert.AdamwFfnIn.algebraic⟩

end Cert.Proof

end
